-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1024 : Shape := ⟨2, ![128, 1024]⟩
abbrev S1024x128 : Shape := ⟨2, ![1024, 128]⟩
abbrev S1024x1024 : Shape := ⟨2, ![1024, 1024]⟩
abbrev S2 : Shape := ⟨1, ![2]⟩
abbrev S8 : Shape := ⟨1, ![8]⟩
abbrev S1 : Shape := ⟨1, ![1]⟩
abbrev S_ : Shape := ⟨0, ![]⟩
abbrev S128x128 : Shape := ⟨2, ![128, 128]⟩

abbrev nBuf : Space → Nat
  | .hbm => 3
  | .vmem => 5
  | .smem => 0
  | _ => 0

abbrev bufTy : (tb : Table) → Fin (tcTables nBuf tb) → BufTy
  | .hbm, ⟨0, _⟩ => ⟨S128x1024, .f32⟩
  | .hbm, ⟨1, _⟩ => ⟨S1024x128, .f32⟩
  | .hbm, ⟨2, _⟩ => ⟨S1024x128, .f32⟩
  | .local _ .vmem, ⟨0, _⟩ => ⟨S1024x128, .f32⟩
  | .local _ .vmem, ⟨1, _⟩ => ⟨S128x1024, .f32⟩
  | .local _ .vmem, ⟨2, _⟩ => ⟨S1024x128, .f32⟩
  | .local _ .vmem, ⟨3, _⟩ => ⟨S1024x1024, .bf16⟩
  | .local _ .vmem, ⟨4, _⟩ => ⟨S1024x128, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v8 : BitVec 32 := Scalar.addi v2 c1_i32_1
  let c8_i32_2 : BitVec 32 := 8#32
  let v9 : BitVec 32 := Scalar.remsi v8 c8_i32_2
  let c1_i32_4 : BitVec 32 := 1#32
  let v10 : BitVec 32 := Scalar.muli v9 c1_i32_4
  let v11 : BitVec 32 := Scalar.addi c0_i32_5 v10
  v11.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v12 : BitVec 32 := Scalar.addi v2 c2_i32
  let c8_i32_6 : BitVec 32 := 8#32
  let v13 : BitVec 32 := Scalar.remsi v12 c8_i32_6
  let c1_i32_8 : BitVec 32 := 1#32
  let v14 : BitVec 32 := Scalar.muli v13 c1_i32_8
  let v15 : BitVec 32 := Scalar.addi c0_i32_9 v14
  v15.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v16 : BitVec 32 := Scalar.addi v2 c3_i32
  let c8_i32_10 : BitVec 32 := 8#32
  let v17 : BitVec 32 := Scalar.remsi v16 c8_i32_10
  let c1_i32_12 : BitVec 32 := 1#32
  let v18 : BitVec 32 := Scalar.muli v17 c1_i32_12
  let v19 : BitVec 32 := Scalar.addi c0_i32_13 v18
  v19.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v20 : BitVec 32 := Scalar.addi v2 c4_i32
  let c8_i32_14 : BitVec 32 := 8#32
  let v21 : BitVec 32 := Scalar.remsi v20 c8_i32_14
  let c1_i32_16 : BitVec 32 := 1#32
  let v22 : BitVec 32 := Scalar.muli v21 c1_i32_16
  let v23 : BitVec 32 := Scalar.addi c0_i32_17 v22
  v23.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v24 : BitVec 32 := Scalar.addi v2 c5_i32
  let c8_i32_18 : BitVec 32 := 8#32
  let v25 : BitVec 32 := Scalar.remsi v24 c8_i32_18
  let c1_i32_20 : BitVec 32 := 1#32
  let v26 : BitVec 32 := Scalar.muli v25 c1_i32_20
  let v27 : BitVec 32 := Scalar.addi c0_i32_21 v26
  v27.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v28 : BitVec 32 := Scalar.addi v2 c6_i32
  let c8_i32_22 : BitVec 32 := 8#32
  let v29 : BitVec 32 := Scalar.remsi v28 c8_i32_22
  let c1_i32_24 : BitVec 32 := 1#32
  let v30 : BitVec 32 := Scalar.muli v29 c1_i32_24
  let v31 : BitVec 32 := Scalar.addi c0_i32_25 v30
  v31.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v32 : BitVec 32 := Scalar.addi v2 c7_i32
  let c8_i32_26 : BitVec 32 := 8#32
  let v33 : BitVec 32 := Scalar.remsi v32 c8_i32_26
  let c1_i32_28 : BitVec 32 := 1#32
  let v34 : BitVec 32 := Scalar.muli v33 c1_i32_28
  let v35 : BitVec 32 := Scalar.addi c0_i32_29 v34
  v35.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32 : BitVec 32 := 128#32
  let v40 : BitVec 32 := Scalar.muli v2 c128_i32
  let v41 : Index := Scalar.indexCast v40
  let c0_33 : Index := 0#32
  ![v41.toNat, 0]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_37 : BitVec 32 := 128#32
  let v48 : BitVec 32 := Scalar.muli v2 c128_i32_37
  let c0_i32_42 : BitVec 32 := 0#32
  ![v48.toNat, 0]
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v45 : BitVec 32 := Scalar.addi v2 c1_i32_34
  let c8_i32_35 : BitVec 32 := 8#32
  let v46 : BitVec 32 := Scalar.remsi v45 c8_i32_35
  let c1_i32_40 : BitVec 32 := 1#32
  let v49 : BitVec 32 := Scalar.muli v46 c1_i32_40
  let v50 : BitVec 32 := Scalar.addi c0_i32_41 v49
  v50.toNat
def k0_dev9 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_44 : BitVec 32 := 2#32
  let v57 : BitVec 32 := Scalar.addi v2 c2_i32_44
  let c8_i32_45 : BitVec 32 := 8#32
  let v58 : BitVec 32 := Scalar.remsi v57 c8_i32_45
  let c1_i32_50 : BitVec 32 := 1#32
  let v61 : BitVec 32 := Scalar.muli v58 c1_i32_50
  let v62 : BitVec 32 := Scalar.addi c0_i32_51 v61
  v62.toNat
def k0_dev10 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_54 : BitVec 32 := 3#32
  let v69 : BitVec 32 := Scalar.addi v2 c3_i32_54
  let c8_i32_55 : BitVec 32 := 8#32
  let v70 : BitVec 32 := Scalar.remsi v69 c8_i32_55
  let c1_i32_60 : BitVec 32 := 1#32
  let v73 : BitVec 32 := Scalar.muli v70 c1_i32_60
  let v74 : BitVec 32 := Scalar.addi c0_i32_61 v73
  v74.toNat
def k0_dev11 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_64 : BitVec 32 := 4#32
  let v81 : BitVec 32 := Scalar.addi v2 c4_i32_64
  let c8_i32_65 : BitVec 32 := 8#32
  let v82 : BitVec 32 := Scalar.remsi v81 c8_i32_65
  let c1_i32_70 : BitVec 32 := 1#32
  let v85 : BitVec 32 := Scalar.muli v82 c1_i32_70
  let v86 : BitVec 32 := Scalar.addi c0_i32_71 v85
  v86.toNat
def k0_dev12 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_74 : BitVec 32 := 5#32
  let v93 : BitVec 32 := Scalar.addi v2 c5_i32_74
  let c8_i32_75 : BitVec 32 := 8#32
  let v94 : BitVec 32 := Scalar.remsi v93 c8_i32_75
  let c1_i32_80 : BitVec 32 := 1#32
  let v97 : BitVec 32 := Scalar.muli v94 c1_i32_80
  let v98 : BitVec 32 := Scalar.addi c0_i32_81 v97
  v98.toNat
def k0_dev13 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_84 : BitVec 32 := 6#32
  let v105 : BitVec 32 := Scalar.addi v2 c6_i32_84
  let c8_i32_85 : BitVec 32 := 8#32
  let v106 : BitVec 32 := Scalar.remsi v105 c8_i32_85
  let c1_i32_90 : BitVec 32 := 1#32
  let v109 : BitVec 32 := Scalar.muli v106 c1_i32_90
  let v110 : BitVec 32 := Scalar.addi c0_i32_91 v109
  v110.toNat
def k0_dev14 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_94 : BitVec 32 := 7#32
  let v117 : BitVec 32 := Scalar.addi v2 c7_i32_94
  let c8_i32_95 : BitVec 32 := 8#32
  let v118 : BitVec 32 := Scalar.remsi v117 c8_i32_95
  let c1_i32_100 : BitVec 32 := 1#32
  let v121 : BitVec 32 := Scalar.muli v118 c1_i32_100
  let v122 : BitVec 32 := Scalar.addi c0_i32_101 v121
  v122.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_114 : BitVec 32 := 128#32
  let v143 : BitVec 32 := Scalar.muli v2 c128_i32_114
  let v144 : Index := Scalar.indexCast v143
  let c0_115 : Index := 0#32
  ![v144.toNat, 0]
def k0_off4 (d0 : Dev nD) (c1_i32_116 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v146 : BitVec 32 := Scalar.subi v2 c1_i32_116
  let c8_i32_117 : BitVec 32 := 8#32
  let v147 : BitVec 32 := Scalar.addi v146 c8_i32_117
  let c8_i32_118 : BitVec 32 := 8#32
  let v148 : BitVec 32 := Scalar.remsi v147 c8_i32_118
  let c128_i32_120 : BitVec 32 := 128#32
  let v150 : BitVec 32 := Scalar.muli v148 c128_i32_120
  let c0_i32_125 : BitVec 32 := 0#32
  ![v150.toNat, 0]
def k0_off5 (d0 : Dev nD) (c1_i32_116 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v146 : BitVec 32 := Scalar.subi v2 c1_i32_116
  let c8_i32_117 : BitVec 32 := 8#32
  let v147 : BitVec 32 := Scalar.addi v146 c8_i32_117
  let c8_i32_118 : BitVec 32 := 8#32
  let v148 : BitVec 32 := Scalar.remsi v147 c8_i32_118
  let c128_i32_127 : BitVec 32 := 128#32
  let v157 : BitVec 32 := Scalar.muli v148 c128_i32_127
  let v158 : Index := Scalar.indexCast v157
  let c0_128 : Index := 0#32
  ![v158.toNat, 0]
def k0_off6 (d0 : Dev nD) (c1_i32_116 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v146 : BitVec 32 := Scalar.subi v2 c1_i32_116
  let c8_i32_117 : BitVec 32 := 8#32
  let v147 : BitVec 32 := Scalar.addi v146 c8_i32_117
  let c8_i32_118 : BitVec 32 := 8#32
  let v148 : BitVec 32 := Scalar.remsi v147 c8_i32_118
  let c128_i32_133 : BitVec 32 := 128#32
  let v164 : BitVec 32 := Scalar.muli v148 c128_i32_133
  let v165 : Index := Scalar.indexCast v164
  let c0_134 : Index := 0#32
  ![v165.toNat, 0]
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Blocks.lean ====
/-
# The row blocks of the kernel's two blocked buffers

Two buffers of the kernel have 1024 rows and are handled in eight blocks of 128 rows, one block per device: the
gathered operand (1024 x 1024) and the result (1024 x 128). This file says what is needed of such a cut, for
any width: which elements lie in which block, what an array glued from eight blocks reads as on one of them,
and that owning the buffer is owning the eight blocks.
-/
module

public import proofs.«01_k».proof.Proof.Gen.KernelIdeal
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## The cut of 1024 rows into eight blocks -/

/-- The shape with `a` rows and `b` columns. -/
abbrev Sh (a b : ℕ) : Shape := ⟨2, ![a, b]⟩

variable {W : ℕ}

/-- The device whose block holds row `i 0`. -/
def rowDev (i : (Sh 1024 W).Idx) : Dev nD :=
  ⟨(i 0).val / 128, Nat.div_lt_of_lt_mul (show (i 0).val < 128 * 8 from (i 0).isLt)⟩

/-- The place of an element within its block. -/
def rowIn (i : (Sh 1024 W).Idx) : (Sh 128 W).Idx
  | 0 => ⟨(i 0).val % 128, Nat.mod_lt _ (by decide)⟩
  | 1 => ⟨(i 1).val, (i 1).isLt⟩

/-- Eight blocks of 128 rows glued on top of each other, the block of device `p` at row `128 p`. -/
def stack {α : Type} (g : Dev nD → (Sh 128 W).Idx → α) : (Sh 1024 W).Idx → α := fun i => g (rowDev i) (rowIn i)

theorem rowInb (W : ℕ) (p : Dev nD) : ∀ a, (![128 * p.val, 0] : Fin 2 → ℕ) a + (Sh 128 W).size a ≤ (Sh 1024 W).size a := by
  have hp : p.val < 8 := p.isLt
  intro a
  fin_cases a
  · show 128 * p.val + 128 ≤ 1024; omega
  · show 0 + W ≤ W; omega

/-- The rows of device `p`'s block. -/
abbrev rowRect (W : ℕ) (p : Dev nD) : Rect (Sh 1024 W) := Rect.unit (s := Sh 1024 W) ![128 * p.val, 0] (Sh 128 W).size (rowInb W p)

theorem mem_rowRect (p : Dev nD) (i : (Sh 1024 W).Idx) : i ∈ (rowRect W p).set ↔ rowDev i = p := by
  rw [Rect.mem_set_unit]
  have h0 : (i 0).val < 1024 := (i 0).isLt
  have h1 : (i 1).val < W := (i 1).isLt
  constructor
  · intro h
    have h := h 0
    have hl : 128 * p.val ≤ (i 0).val := h.1
    have hh : (i 0).val < 128 * p.val + 128 := h.2
    exact Fin.ext (show (i 0).val / 128 = p.val by omega)
  · intro h a
    have h : (i 0).val / 128 = p.val := congrArg Fin.val h
    fin_cases a
    · show 128 * p.val ≤ (i 0).val ∧ (i 0).val < 128 * p.val + 128; omega
    · show 0 ≤ (i 1).val ∧ (i 1).val < 0 + W; omega

/-- Glued blocks read on the rows of `p` are the block of `p`. -/
theorem stack_emb {α : Type} (g : Dev nD → (Sh 128 W).Idx → α) (p : Dev nD) (x : (Sh 128 W).Idx) :
    stack g ((rowRect W p).emb x) = g p x := by
  have hp : p.val < 8 := p.isLt
  have h0 : (x 0).val < 128 := (x 0).isLt
  have e0 : (((rowRect W p).emb x) 0).val = 128 * p.val + 1 * (x 0).val := rfl
  have e1 : (((rowRect W p).emb x) 1).val = 0 + 1 * (x 1).val := rfl
  have hd : rowDev ((rowRect W p).emb x) = p :=
    Fin.ext (show (((rowRect W p).emb x) 0).val / 128 = p.val by rw [e0]; omega)
  have hi : rowIn ((rowRect W p).emb x) = x := by
    funext a
    fin_cases a
    · exact Fin.ext (show (((rowRect W p).emb x) 0).val % 128 = (x 0).val by rw [e0]; omega)
    · exact Fin.ext (show (((rowRect W p).emb x) 1).val = (x 1).val by rw [e1]; omega)
  unfold stack
  rw [hd, hi]

/-! ## Owning a buffer by blocks -/

variable {F : FTy → Type}
variable {U : Type} [URA U]

/-- Where the sets `K p` sort the elements of a buffer by `row`, the buffer is the eight parts. -/
theorem pts_rows (ℓ : Loc nD τ sig) (q : PosShare TreeShare) (f : Buf (Elt F) ℓ) (K : Dev nD → Finset (Idx ℓ)) (row : Idx ℓ → Dev nD)
    (hK : ∀ p i, i ∈ K p ↔ row i = p) :
    (ℓ ↦{q} f : sProp (MT nD τ sig Unit (Elt F) ℕ U ℕ)) = bigSep Finset.univ fun p => ℓ ↦[K p]{q} f := by
  rw [← pointsTo_biUnion]
  · congr 1
    exact (Finset.eq_univ_of_forall fun i => Finset.mem_biUnion.mpr ⟨row i, Finset.mem_univ _, (hK _ _).mpr rfl⟩).symm
  · intro p _ p' _ hne
    exact Finset.disjoint_left.mpr fun i hi hi' => hne (((hK _ _).mp hi).symm.trans ((hK _ _).mp hi'))

/-- Contents that read the same through a view give the same ownership of what the view shows. -/
theorem pts_of_read {sp : Space} {s : Shape} {e : EltTy} (v : View sig .tc sp s e) (c : Dev nD) (q : PosShare TreeShare)
    {f g : Buf (Elt F) (v.loc (c : Thread nD τ))} (h : v.read (Elt F) f = v.read (Elt F) g) :
    (v.loc (c : Thread nD τ) ↦[v.set]{q} f : sProp (MT nD τ sig Unit (Elt F) ℕ U ℕ)) = (v.loc (c : Thread nD τ) ↦[v.set]{q} g) := by
  refine pointsTo_congr fun i hi => ?_
  obtain ⟨x, -, rfl⟩ := Finset.mem_map.mp hi
  have hx := congrFun h x
  rw [View.read_apply, View.read_apply] at hx
  exact (cast_inj _).mp hx

/-- A view written in full with what `g` reads as through it owns what it would with `g`. -/
theorem pts_written {sp : Space} {s : Shape} {e : EltTy} (v : View sig .tc sp s e) (c : Dev nD) (q : PosShare TreeShare)
    (f g : Buf (Elt F) (v.loc (c : Thread nD τ))) (w : s.Idx → Elt F e) (h : v.read (Elt F) g = w) :
    (v.loc (c : Thread nD τ) ↦[v.set]{q} v.write (Elt F) f w Finset.univ : sProp (MT nD τ sig Unit (Elt F) ℕ U ℕ)) = (v.loc (c : Thread nD τ) ↦[v.set]{q} g) :=
  pts_of_read v c q ((View.read_write_univ f w).trans h.symm)

end Cert.Gather
-- ==== Proof.Protocol.lean ====
/-
# What the eight devices agree on

Every device signals each of the other seven on the runtime's barrier semaphore and waits for seven signals; then it
copies its converted row block of `x` to the same rows of the gather buffer of each of the other seven. For the
neighbour at distance `j + 1` (`j : Fin 7`) it uses the send semaphore and the receive semaphore number `j + 1`.

* BARRIER cell of `c`: seven units, one from each other device. The unit of `bwd c j` (the device whose neighbour at
  distance `j + 1` is `c`) hands `c` the block number `c` of that device's gather buffer, to copy into.
* RECEIVE cell `j` of `c`: the credit of one block, from the copy of `bwd c j`. It hands `c` the block number `bwd c j` of
  its own gather buffer, holding the rows of that device.
* SEND cell `j` of `c`: the same credit, from `c`'s own copy. It hands back the share of `c`'s own block it was reading.
* the two LOCAL cells of `c`: the copies of `x` and of `w` into the core's memory. They hand back source and target.

Each cell goes through one round. While it waits at the barrier, a device owes receive credit only; nothing is owed
after the seven copies have been issued.
-/
module

public import proofs.«01_k».proof.Proof.Blocks

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

/-! ## The ghost algebra: one copy of the rounds for the result's staging, one (seven duty names) for the devices -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The neighbours -/

set_option backward.proofsInPublic true in
/-- The device `j + 1` places after `c`. -/
def fwd (c : Dev nD) (j : Fin 7) : Dev nD := ⟨(c.val + (j.val + 1)) % 8, Nat.mod_lt _ (by decide)⟩
set_option backward.proofsInPublic true in
/-- The device `j + 1` places before `c`. -/
def bwd (c : Dev nD) (j : Fin 7) : Dev nD := ⟨(c.val + 7 - j.val) % 8, Nat.mod_lt _ (by decide)⟩
set_option backward.proofsInPublic true in
/-- Seven places and `j + 1` the other way round: `j + 1` places before is `rev j + 1` places after. -/
def rev (j : Fin 7) : Fin 7 := ⟨6 - j.val, by omega⟩

theorem bwd_fwd (c : Dev nD) (j : Fin 7) : bwd (fwd c j) j = c := by revert c j; decide
theorem fwd_bwd (c : Dev nD) (j : Fin 7) : fwd (bwd c j) j = c := by revert c j; decide
theorem bwd_rev (c : Dev nD) (j : Fin 7) : bwd c (rev j) = fwd c j := by revert c j; decide
theorem rev_rev (j : Fin 7) : rev (rev j) = j := by revert j; decide

/-- One turn of all devices by `j + 1` places. -/
def turn (j : Fin 7) : Dev nD ≃ Dev nD := ⟨fun c => fwd c j, fun c => bwd c j, fun c => bwd_fwd c j, fun c => fwd_bwd c j⟩
def flip : Fin 7 ≃ Fin 7 := ⟨rev, rev, rev_rev, rev_rev⟩

/-! ## The buffers and what they hold -/

abbrev xH : Memref sig .tc .hbm S128x1024 .f32 := Memref.whole main_arg0
abbrev wH : Memref sig .tc .hbm S1024x128 .f32 := Memref.whole main_arg1
abbrev oV : Memref sig .tc .vmem S1024x128 .f32 := Memref.whole cc0_stg0_0
abbrev xV : Memref sig .tc .vmem S128x1024 .f32 := Memref.whole cc0_scratch0
abbrev wV : Memref sig .tc .vmem S1024x128 .f32 := Memref.whole cc0_scratch1
abbrev gV : Memref sig .tc .vmem S1024x1024 .bf16 := Memref.whole cc0_scratch2
abbrev bV : Memref sig .tc .vmem S1024x128 .bf16 := Memref.whole cc0_scratch3

/-- Device `p`'s rows of the gather buffer. -/
abbrev gBlk (p : Dev nD) : Memref sig .tc .vmem S128x1024 .bf16 := gV.slice (rowRect 1024 p) (fun _ => rfl)
/-- Device `p`'s rows of the staged result. -/
abbrev oBlk (p : Dev nD) : Memref sig .tc .vmem S128x128 .f32 := oV.slice (rowRect 128 p) (fun _ => rfl)

/-- Device `p`'s rows of `x`, -/
def xOf (p : Dev nD) : (main_arg0 : Ref sig .tc).ty.Contents (Elt F) := m ((p : Thread nD τ).loc main_arg0)
/-- its columns of `w`, -/
def wOf (p : Dev nD) : (main_arg1 : Ref sig .tc).ty.Contents (Elt F) := m ((p : Thread nD τ).loc main_arg1)
/-- the rows of all devices, converted, as every device gathers them, -/
def gAll : (cc0_scratch2 : Ref sig .tc).ty.Contents (Elt F) := stack (W := 1024) fun p => k0_pay1 (xOf m p)
/-- and device `c`'s result: its rows `p` are the product of device `p`'s rows and `c`'s columns, negative entries
    replaced by zero. -/
def oOf (c : Dev nD) : (cc0_stg0_0 : Ref sig .tc).ty.Contents (Elt F) :=
  stack (W := 128) fun p => k0_pay3 (k0_pay1 (xOf m p)) (k0_pay2 (wOf m c))

theorem read_gAll (p : Dev nD) : (gBlk p).view.read (Elt F) (gAll m) = k0_pay1 (xOf m p) := by
  funext x
  exact stack_emb (W := 1024) (fun p => k0_pay1 (xOf m p)) p x
theorem read_oOf (c p : Dev nD) : (oBlk p).view.read (Elt F) (oOf m c) = k0_pay3 (k0_pay1 (xOf m p)) (k0_pay2 (wOf m c)) := by
  funext x
  exact stack_emb (W := 128) (fun p => k0_pay3 (k0_pay1 (xOf m p)) (k0_pay2 (wOf m c))) p x

/-- Device `c` owns share `q` of the rows `p` of its gather buffer, -/
def gPts (c p : Dev nD) (q : PosShare TreeShare) (f : (cc0_scratch2 : Ref sig .tc).ty.Contents (Elt F)) : sProp 𝕄 :=
  (gBlk p).view.loc (c : Thread nD τ) ↦[(gBlk p).view.set]{q} f
/-- or the rows `p` of its staged result, -/
def oPts (c p : Dev nD) (f : (cc0_stg0_0 : Ref sig .tc).ty.Contents (Elt F)) : sProp 𝕄 :=
  (oBlk p).view.loc (c : Thread nD τ) ↦[(oBlk p).view.set]{fullShare} f
/-- or a whole buffer `b`. -/
def bPts (c : Dev nD) (b : Ref sig .tc) (f : b.ty.Contents (Elt F)) : sProp 𝕄 := (c : Thread nD τ).loc b ↦{fullShare} f

omit [FloatOps F] in
instance gPts_storable (c p : Dev nD) (q) (f) : BI.Storable (upEmb : UEmb _ 𝕄) (gPts (F := F) c p q f) := by unfold gPts; infer_instance
omit [FloatOps F] in
instance bPts_storable (c : Dev nD) (b : Ref sig .tc) (f) : BI.Storable (upEmb : UEmb _ 𝕄) (bPts (F := F) c b f) := by unfold bPts; infer_instance

theorem gSet (p : Dev nD) : (gBlk p).view.set = (rowRect 1024 p).set := View.set_slice_whole _ _
theorem oSet (p : Dev nD) : (oBlk p).view.set = (rowRect 128 p).set := View.set_slice_whole _ _

omit [FloatOps F] in
/-- The gather buffer is its eight blocks, -/
theorem g_split (c : Dev nD) (f : (cc0_scratch2 : Ref sig .tc).ty.Contents (Elt F)) :
    bPts c cc0_scratch2 f = bigSep Finset.univ fun p => gPts (F := F) c p fullShare f := by
  unfold bPts gPts
  exact pts_rows ((c : Thread nD τ).loc cc0_scratch2) fullShare f (fun p => (gBlk p).view.set) (fun i => rowDev (W := 1024) i)
    fun p i => by rw [gSet]; exact mem_rowRect (W := 1024) p i
omit [FloatOps F] in
/-- and so is the staged result. -/
theorem o_split (c : Dev nD) (f : (cc0_stg0_0 : Ref sig .tc).ty.Contents (Elt F)) :
    bPts c cc0_stg0_0 f = bigSep Finset.univ fun p => oPts (F := F) c p f := by
  unfold bPts oPts
  exact pts_rows ((c : Thread nD τ).loc cc0_stg0_0) fullShare f (fun p => (oBlk p).view.set) (fun i => rowDev (W := 128) i)
    fun p i => by rw [oSet]; exact mem_rowRect (W := 128) p i

/-- All devices: `c` itself, and the seven before it, nearest first. -/
theorem bigSep_bwd (c : Dev nD) (Φ : Dev nD → sProp 𝕄) : bigSep Finset.univ Φ = iprop(Φ c ∗ bigSep Finset.univ fun j => Φ (bwd c j)) := by
  rw [bigSep_univ_at Φ c, show Finset.univ.erase c = (Finset.univ : Finset (Fin 7)).map ⟨bwd c, by revert c; decide⟩ by revert c; decide,
    bigSep_map]
  rfl
/-- The same seven, named as those after it. -/
theorem bigSep_flip (c : Dev nD) (Φ : Dev nD → sProp 𝕄) :
    (bigSep Finset.univ fun j => Φ (bwd c j)) = bigSep Finset.univ fun j => Φ (fwd c j) := by
  rw [bigSep_univ_equiv flip]
  exact bigSep_congr fun j _ => congrArg Φ (bwd_rev c j)

/-! ## The cells -/

/-- The runtime's barrier semaphore. -/
abbrev barS : Sem sig := (SemArray.scalar (sig.barrier 0 rfl) : Sems sig S_).sem

/-- The cells of one device: barrier, copy of `x`, copy of `w`; the sends; the receives. -/
abbrev Cl : Type := Fin 3 ⊕ (Fin 7 ⊕ Fin 7)
abbrev kBar : Cl := .inl 0
abbrev kX : Cl := .inl 1
abbrev kW : Cl := .inl 2
abbrev kSend (j : Fin 7) : Cl := .inr (.inl j)
abbrev kRecv (j : Fin 7) : Cl := .inr (.inr j)

set_option backward.proofsInPublic true in
/-- Their semaphores. -/
def csem : Cl → SemLoc sig
  | .inl 0 => .reg barS
  | .inl 1 => .dma (1 : Fin 19)
  | .inl 2 => .dma (2 : Fin 19)
  | .inr (.inl j) => .dma (⟨4 + j.val, by omega⟩ : Fin 19)
  | .inr (.inr j) => .dma (⟨12 + j.val, by omega⟩ : Fin 19)

set_option backward.proofsInPublic true in
/-- Which of the cells a semaphore is, if any. -/
def role : SemLoc sig → Option Cl
  | .reg _ => some kBar
  | .dma s =>
    if s = (1 : Fin 19) then some kX
    else if s = (2 : Fin 19) then some kW
    else if h : 4 ≤ s.val ∧ s.val < 11 then some (kSend ⟨s.val - 4, by omega⟩)
    else if h : 12 ≤ s.val ∧ s.val < 19 then some (kRecv ⟨s.val - 12, by omega⟩)
    else none

theorem role_csem (k : Cl) : role (csem k) = some k := by revert k; decide

/-- Cell `k` of device `c`. -/
abbrev cell (c : Dev nD) (k : Cl) : GSem nD τ sig := ((c : Thread nD τ), csem k)

theorem cell_inj {c c' : Dev nD} {k k' : Cl} (h : cell c k = cell c' k') : c = c' ∧ k = k' := by
  refine ⟨congrArg (fun g : GSem nD τ sig => g.1.1) h, ?_⟩
  have h2 := congrArg (fun g : GSem nD τ sig => role g.2) h
  rw [role_csem, role_csem] at h2
  exact Option.some.inj h2

/-- The credit of one block, of `x`'s copy and of `w`'s. -/
abbrev N : ℕ := (gBlk (0 : Fin 8)).view.dmaCredit
abbrev Nx : ℕ := xV.view.dmaCredit
abbrev Nw : ℕ := wV.view.dmaCredit

/-! ## The schedule -/

/-- What duty `d` of cell `k` of device `c` hands over. -/
def pay (c : Dev nD) (k : Cl) (d : Fin 7) : sProp 𝕄 :=
  match k with
  | .inl 0 => iprop(∃ f, gPts (bwd c d) c fullShare f)
  | .inl 1 => iprop(bPts c main_arg0 (xOf m c) ∗ bPts c cc0_scratch0 (xOf m c))
  | .inl 2 => iprop(bPts c main_arg1 (wOf m c) ∗ bPts c cc0_scratch1 (wOf m c))
  | .inr (.inl j) => gPts c c (shareTok fullShare 7 j) (gAll m)
  | .inr (.inr j) => gPts c (bwd c j) fullShare (gAll m)

/-- Its units, -/
def amt : Option Cl → ℕ
  | some (.inl 0) => 1
  | some (.inl 1) => Nx
  | some (.inl 2) => Nw
  | some (.inr _) => N
  | none => 1

/-- and the duties. -/
def dut : Option Cl → Finset (Fin 7)
  | some (.inl 0) => Finset.univ
  | some _ => {0}
  | none => ∅

theorem amt_pos (k : Option Cl) : 0 < amt k := by
  rcases k with _ | ⟨i | j⟩
  · exact Nat.one_pos
  · fin_cases i
    · exact Nat.one_pos
    · exact View.dmaCredit_pos _ (by decide)
    · exact View.dmaCredit_pos _ (by decide)
  · exact View.dmaCredit_pos _ (by decide)

instance pay_storable (c : Dev nD) (k : Cl) (d : Fin 7) : BI.Storable (upEmb : UEmb _ 𝕄) (pay (F := F) m c k d) := by
  rcases k with i | j | j
  · fin_cases i <;> (unfold pay; infer_instance)
  · unfold pay; infer_instance
  · unfold pay; infer_instance

/-- One round per cell. -/
def sched : Rounds.Schedule (GSem nD τ sig) (Fin 7) 𝕄 where
  duties g r := if r = 0 ∧ g.1.2 = .tc then dut (role g.2) else ∅
  unitless _ := False
  amount g _ _ := amt (role g.2)
  payload g _ d := match role g.2 with
    | some k => pay m g.1.1 k d
    | none => iprop(emp)
  amount_pos g _ _ _ := amt_pos _

instance sched_payload_storable (g : GSem nD τ sig) (r : ℕ) (d : Fin 7) :
    BI.Storable (upEmb : UEmb _ 𝕄) ((sched (F := F) m).payload g r d) := by
  show BI.Storable upEmb (match role g.2 with | some k => pay m g.1.1 k d | none => iprop(emp))
  split <;> infer_instance

theorem duties_cell (c : Dev nD) (k : Cl) : (sched (F := F) m).duties (cell c k) 0 = dut (some k) := by
  dsimp only [sched]; rw [if_pos ⟨rfl, rfl⟩, role_csem]
theorem amount_cell (c : Dev nD) (k : Cl) (r : ℕ) (d : Fin 7) : (sched (F := F) m).amount (cell c k) r d = amt (some k) := by
  dsimp only [sched]; rw [role_csem]
theorem payload_cell (c : Dev nD) (k : Cl) (r : ℕ) (d : Fin 7) : (sched (F := F) m).payload (cell c k) r d = pay m c k d := by
  dsimp only [sched]; rw [role_csem]
theorem duties_later (g : GSem nD τ sig) : ∀ r, 1 ≤ r → (sched (F := F) m).duties g r = ∅ :=
  fun r hr => by dsimp only [sched]; rw [if_neg fun h => by omega]

/-- The units of cell `k`'s round: seven at the barrier, its one copy's elsewhere; -/
def tot : Cl → ℕ
  | .inl 0 => 7
  | .inl 1 => Nx
  | .inl 2 => Nw
  | .inr _ => N

theorem expect_cell (c : Dev nD) (k : Cl) : (sched (F := F) m).expect (cell c k) 0 = tot k := by
  unfold Schedule.expect Schedule.amountOf
  rw [duties_cell, Finset.sum_congr rfl fun d _ => amount_cell m c k 0 d, Finset.sum_const]
  rcases k with i | j
  · fin_cases i
    · rfl
    · exact one_smul ℕ Nx
    · exact one_smul ℕ Nw
  · exact one_smul ℕ N

/-- and what the whole round hands over. -/
def gain (c : Dev nD) (k : Cl) : sProp 𝕄 := bigSep (dut (some k)) fun d => pay m c k d

theorem rest_cell (c : Dev nD) (k : Cl) :
    bigSep ((sched (F := F) m).duties (cell c k) 0 \ ∅) (fun d => (sched (F := F) m).payload (cell c k) 0 d) = gain m c k := by
  rw [Finset.sdiff_empty, duties_cell]
  exact bigSep_congr fun d _ => payload_cell m c k 0 d

/-! ## What is owed, and in which order things are waited for -/

/-- What is left of seven debts once the first `n` are paid. -/
def owedFrom (t : Fin 7 → CellTallies nD τ sig Unit) (n : ℕ) : CellTallies nD τ sig Unit := ∑ j : Fin 7 with n ≤ j.val, t j

theorem owedFrom_peel (t : Fin 7 → CellTallies nD τ sig Unit) (j : Fin 7) : owedFrom t j.val = owedFrom t (j.val + 1) + t j := by
  unfold owedFrom
  rw [show (Finset.univ.filter fun i : Fin 7 => j.val ≤ i.val) = insert j (Finset.univ.filter fun i : Fin 7 => j.val + 1 ≤ i.val) by
    revert j; decide, Finset.sum_insert (by simp), add_comm]
theorem owedFrom_end (t : Fin 7 → CellTallies nD τ sig Unit) : owedFrom t 7 = 0 := by
  unfold owedFrom
  rw [show (Finset.univ.filter fun i : Fin 7 => 7 ≤ i.val) = ∅ by decide, Finset.sum_empty]
theorem owedFrom_zero (t : Fin 7 → CellTallies nD τ sig Unit) : owedFrom t 0 = ∑ j, t j := by
  unfold owedFrom
  rw [show (Finset.univ.filter fun i : Fin 7 => 0 ≤ i.val) = Finset.univ by decide]

/-- The unit device `c` owes the barrier of the device `j + 1` places after it, and the credit it owes that one's receive cell. -/
abbrev dueBar (c : Dev nD) (j : Fin 7) : CellTallies nD τ sig Unit := tallyAt (cell (fwd c j) kBar) () 1
abbrev dueRecv (c : Dev nD) (j : Fin 7) : CellTallies nD τ sig Unit := tallyAt (cell (fwd c j) (kRecv j)) () N

/-- Everything device `c` owes at launch. -/
def O₀ (c : Dev nD) : CellTallies nD τ sig Unit := owedFrom (dueRecv c) 0 + owedFrom (dueBar c) 0

def L (g : GSem nD τ sig) : Finset Unit := if g.1.2 = .tc then {()} else ∅
/-- Barrier cells at 1, receive cells at 2, everything else at 0: a wait is allowed while only higher cells are owed. -/
def lv (g : GSem nD τ sig) (_ : Unit) : ℕ := match role g.2 with
  | some (.inl 0) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem owedFrom_pos {t : Fin 7 → CellTallies nD τ sig Unit} {n : ℕ} {g : GSem nD τ sig} {u : Unit} (h : 0 < owedFrom t n g u) :
    ∃ j, 0 < t j g u := by
  by_contra hn
  have h0 : ∀ j, t j g u = 0 := fun j => Nat.eq_zero_of_not_pos fun hj => hn ⟨j, hj⟩
  unfold owedFrom at h
  rw [Finset.sum_apply, Finsupp.finset_sum_apply, Finset.sum_eq_zero fun j _ => h0 j] at h
  exact Nat.lt_irrefl 0 h

theorem due_pos {g' g : GSem nD τ sig} {n : ℕ} {u : Unit} (h : 0 < (tallyAt g' () n : CellTallies nD τ sig Unit) g u) : g = g' := by
  rw [tallyAt_apply] at h
  by_contra hn
  rw [if_neg fun h' => hn h'.1] at h
  exact Nat.lt_irrefl 0 h

/-- Whatever is owed at any time is owed to barrier or receive cells. -/
theorem O₀_pos {c : Dev nD} {n k : ℕ} {g : GSem nD τ sig} {u : Unit} (h : 0 < (owedFrom (dueRecv c) n + owedFrom (dueBar c) k) g u) :
    ∃ d, g = cell d kBar ∨ ∃ j, g = cell d (kRecv j) := by
  rw [Pi.add_apply, Finsupp.add_apply] at h
  rcases Nat.eq_zero_or_pos (owedFrom (dueRecv c) n g u) with h0 | h1
  · rw [h0, Nat.zero_add] at h
    obtain ⟨j, hj⟩ := owedFrom_pos h
    exact ⟨_, .inl (due_pos hj)⟩
  · obtain ⟨j, hj⟩ := owedFrom_pos h1
    exact ⟨_, .inr ⟨j, due_pos hj⟩⟩

theorem lv_cell (c : Dev nD) (k : Cl) : lv (cell c k) () = (match k with | .inl 0 => 1 | .inr (.inr _) => 2 | _ => 0) := by
  unfold lv; rw [role_csem]
  rcases k with i | j | j
  · fin_cases i <;> rfl
  · rfl
  · rfl

omit [FloatOps F] in
/-- A semaphore that is neither barrier nor receive may be waited for at any time. -/
theorem mayWait_low (c : Dev nD) (sm : SemLoc sig) (hsm : lv ((c : Thread nD τ), sm) () = 0) (n k : ℕ) :
    (levAts L lv : sProp 𝕄) ⊢ MayWait (c : Thread nD τ) sm () (owedFrom (dueRecv c) n + owedFrom (dueBar c) k) :=
  MayOwe.of_cut (L := L) (lev := lv) 0 (fun p hp => by rw [Finset.mem_singleton.mp hp, L_tc]; exact Finset.mem_singleton_self _)
    (fun g u hg => by obtain ⟨d, rfl | ⟨j, rfl⟩⟩ := O₀_pos hg <;> exact Finset.mem_singleton_self _)
    (fun p hp => by rw [Finset.mem_singleton.mp hp]; exact hsm.le)
    (fun g u hg => by
      obtain ⟨d, rfl | ⟨j, rfl⟩⟩ := O₀_pos hg
      · exact lt_of_lt_of_eq (by decide) (lv_cell d kBar).symm
      · exact lt_of_lt_of_eq Nat.two_pos (lv_cell d (kRecv j)).symm)

omit [FloatOps F] in
/-- At the barrier a device owes receive credit only. -/
theorem mayWait_bar (c : Dev nD) (n : ℕ) :
    (levAts L lv : sProp 𝕄) ⊢ MayWait (c : Thread nD τ) (csem kBar) () (owedFrom (dueRecv c) n) :=
  MayOwe.of_cut (L := L) (lev := lv) 1 (fun p hp => by rw [Finset.mem_singleton.mp hp, L_tc]; exact Finset.mem_singleton_self _)
    (fun g u hg => by obtain ⟨j, hj⟩ := owedFrom_pos hg; rw [due_pos hj]; exact Finset.mem_singleton_self _)
    (fun p hp => by rw [Finset.mem_singleton.mp hp]; exact (lv_cell c kBar).le)
    (fun g u hg => by
      obtain ⟨j, hj⟩ := owedFrom_pos hg
      rw [due_pos hj]
      exact lt_of_lt_of_eq Nat.one_lt_two (lv_cell (fwd c j) (kRecv j)).symm)

omit [FloatOps F] in
/-- Once nothing is owed anything may be waited for. -/
theorem mayWait_free (c : Dev nD) (sm : SemLoc sig) : (levAts L lv : sProp 𝕄) ⊢ MayWait (c : Thread nD τ) sm () 0 := by
  rw [MayWait_zero]; iintro -; iempintro

end Cert.Gather
-- ==== Proof.Steps.lean ====
/-
# One rule per kind of operation of the kernel

Each lemma says what one operation of the kernel needs and leaves, in the protocol's own words. The kernel performs
each kind seven times, once per neighbour; a lemma is stated for the neighbour number `j`, and for any spelling of the
device, the row offset or the semaphore that equals the one meant.
-/
module

public import proofs.«01_k».proof.Proof.Protocol

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MT nD τ sig Unit (Elt F) ℕ UU ℕ

variable (m : (ℓ : Loc nD τ sig) → Buf (Elt F) ℓ)
variable (K : Dev nD × Cl → ℕ)

abbrev 𝒱₀ : Variants := Variants.none

/-- Every cell's invariant, at the names `K`, and that every cell has reached its round. -/
def records : sProp 𝕄 :=
  iprop((bigSep Finset.univ fun ck : Dev nD × Cl => cellInv ER (sched m) (K ck) (cell ck.1 ck.2))
    ∗ bigSep Finset.univ fun ck : Dev nD × Cl => reached ER (cell ck.1 ck.2) 0)

instance records_persistent : BI.Persistent (records m K) := by unfold records; infer_instance

theorem inv_at (c : Dev nD) (k : Cl) : (records m K : sProp 𝕄) ⊢ cellInv ER (sched m) (K (c, k)) (cell c k) :=
  (BI.Entails.trans BI.sep_and BI.and_elimL).trans
    (bigSep_elim (Φ := fun ck : Dev nD × Cl => cellInv ER (sched m) (K ck) (cell ck.1 ck.2)) (Finset.mem_univ (c, k)))
theorem reached_at (c : Dev nD) (k : Cl) : (records m K : sProp 𝕄) ⊢ reached ER (cell c k) 0 :=
  (BI.Entails.trans BI.sep_and BI.and_elimR).trans
    (bigSep_elim (Φ := fun ck : Dev nD × Cl => (reached ER (cell ck.1 ck.2) 0 : sProp 𝕄)) (Finset.mem_univ (c, k)))

/-- Device `c` owes `O` (whatever it has waited for so far). -/
def owe (c : Dev nD) (O : CellTallies nD τ sig Unit) : sProp 𝕄 := iprop(∃ W, owes (c : Thread nD τ) O W)

/-! ## Signals, copies, waits -/

/-- The signal to the neighbour `j`: `c` hands it that neighbour's rows of its own gather buffer. -/
theorem wp_ready {α : Type} {Q : α → sProp 𝕄} (c : Dev nD) (j : Fin 7) {n : Dev nD} (hn : n = fwd c j) {a : ℕ} (ha : a = 1) (O : CellTallies nD τ sig Unit)
    {k : PUnit → Prog (TpuEff nD τ sig (Elt F) Λ₀ .tc) α} :
    iprop(records m K ∗ owe c (O + dueBar c j) ∗ dutyTok ER (cell (fwd c j) kBar) 0 j ∗ (∃ f, gPts c (fwd c j) fullShare f))
      ⊢ iprop((owe c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  subst hn ha
  unfold owe
  iintro ⟨#HR, ⟨%W, HO⟩, Ht, Hg⟩ Hk
  iapply (Rounds.wp_signal 𝒱₀ ER (sched m) (c : Thread nD τ) none (dst := (fwd c j : Thread nD τ)) (sem := barS) (κ := K (fwd c j, kBar))
      (r := 0) (d := j) (by show j ∈ (sched m).duties (cell (fwd c j) kBar) 0; rw [duties_cell]; exact Finset.mem_univ _)
      (amount_cell m (fwd c j) kBar 0 j) () O rfl) $$ [HO Ht Hg]
  · isplitr; · iapply (inv_at m K (fwd c j) kBar); iexact HR
    isplitl [HO]; · iexact HO
    isplitl [Ht]; · iexact Ht
    isplitl [Hg]
    · iapply (show iprop(∃ f, gPts c (fwd c j) fullShare f) ⊢ (sched (F := F) m).payload ((fwd c j : Thread nD τ), .reg barS) 0 j from
        Entails.of_eq ((payload_cell m (fwd c j) kBar 0 j).trans (by
          show iprop(∃ f, gPts (bwd (fwd c j) j) (fwd c j) fullShare f) = _; rw [bwd_fwd])).symm)
      iexact Hg
    iapply (reached_at m K (fwd c j) kBar); iexact HR
  iintro HO
  iapply Hk
  iexists W; iexact HO

/-- A local copy on cell `k` of `c`. -/
theorem wp_fetch {α : Type} {Q : α → sProp 𝕄} (c : Dev nD) (k' : Cl) {sm : SemLoc sig} (hsm : sm = csem k') (hd : (0 : Fin 7) ∈ dut (some k')) {s : Shape} {e : EltTy}
    {src : Memref sig (c : Thread nD τ).2.kind .hbm s e} {dst : Memref sig (c : Thread nD τ).2.kind .vmem s e} (fs : Buf (Elt F) (src.view.loc (c : Thread nD τ)))
    (fd : Buf (Elt F) (dst.view.loc (c : Thread nD τ)))
    {hsrc : src.view.WordExact} {hdst : dst.view.WordExact} {hsem : DmaTarget.Typed (nD := nD) .hbm sm (.here dst)}
    {k : PUnit → Prog (TpuEff nD τ sig (Elt F) Λ₀ .tc) α} (hN : dst.view.amount sm = amt (some k'))
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ pay m c k' 0) :
    iprop(records m K ∗ (src.view.loc (c : Thread nD τ) ↦[src.view.set]{fullShare} fs)
        ∗ (dst.view.loc (c : Thread nD τ) ↦[dst.view.set]{fullShare} fd) ∗ dutyTok ER (cell c k') 0 0)
      ⊢ iprop((cred (tallyAt (cell c k') () (amt (some k'))) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) sm hsrc hdst hsem) k) Q) := by
  subst hsm
  iintro ⟨#HR, Hs, Hd, Ht⟩
  iapply (Rounds.wp_copy_pointsTo 𝒱₀ ER (sched m) (c : Thread nD τ) none (κ := K (c, k')) (r := 0) (d := 0) (fs := fs) (fd := fd)
      (q := fullShare) (by rw [duties_cell]; exact hd) () (amt (some k')) hN (amount_cell m c k' 0 0)
      (hpay.trans (Entails.of_eq (payload_cell m c k' 0 0).symm)))
  isplitr; · iapply (inv_at m K c k'); iexact HR
  isplitl [Hs]; · iexact Hs
  isplitl [Hd]; · iexact Hd
  isplitl [Ht]; · iexact Ht
  iapply (reached_at m K c k'); iexact HR

theorem credit_g (p : Dev nD) (j : Fin 7) : (gBlk p).view.amount (csem (kRecv j)) = N := rfl

/-- What lands in the neighbour's buffer is what its receive cell hands over. -/
theorem landing (c : Dev nD) (j : Fin 7) (f : (cc0_scratch2 : Ref sig .tc).ty.Contents (Elt F)) :
    ((gBlk c).view.loc (fwd c j : Thread nD τ) ↦[(gBlk c).view.set]{fullShare}
        (gBlk c).view.write (Elt F) f ((gBlk c).view.read (Elt F) (gAll m)) Finset.univ : sProp 𝕄)
      ⊢ (sched m).payload (cell (fwd c j) (kRecv j)) 0 0 := by
  rw [pts_written (gBlk c).view (fwd c j) fullShare f (gAll m) _ rfl, payload_cell]
  show gPts (fwd c j) c fullShare (gAll m) ⊢ gPts (fwd c j) (bwd (fwd c j) j) fullShare (gAll m)
  rw [bwd_fwd]

/-- The copy to the neighbour `j`: `c` reads a share of its own rows, and writes the neighbour's rows number `c`. -/
theorem wp_ship {α : Type} {Q : α → sProp 𝕄} (c : Dev nD) (j : Fin 7) {n : Dev nD} (hn : n = fwd c j) {sS sR : SemLoc sig} (hS : sS = csem (kSend j)) (hR : sR = csem (kRecv j))
    {o : Fin 2 → ℕ} (ho : o = ![128 * c.val, 0]) {inb : ∀ a, o a + S128x1024.size a ≤ S1024x1024.size a} {hu hu'}
    {hsc : (gV.slice (Rect.unit (s := S1024x1024) o S128x1024.size inb) hu' : Memref sig (Dev.tc n : Thread nD τ).2.kind .vmem S128x1024 .bf16).view.ref.isScScratch = false}
    {hsrc : (gV.slice (Rect.unit (s := S1024x1024) o S128x1024.size inb) hu).view.WordExact}
    {hdst : (gV.slice (Rect.unit (s := S1024x1024) o S128x1024.size inb) hu').view.WordExact}
    {hsem : DmaTarget.Typed .vmem sR (.remote (Dev.tc n : Thread nD τ) (gV.slice (Rect.unit (s := S1024x1024) o S128x1024.size inb) hu') sS hsc)}
    (O : CellTallies nD τ sig Unit) {k : PUnit → Prog (TpuEff nD τ sig (Elt F) Λ₀ .tc) α} :
    iprop(records m K ∗ owe c (O + dueRecv c j) ∗ gPts c c (shareTok fullShare 7 j) (gAll m) ∗ (∃ f, gPts (fwd c j) c fullShare f)
        ∗ dutyTok ER (cell c (kSend j)) 0 0 ∗ dutyTok ER (cell (fwd c j) (kRecv j)) 0 0)
      ⊢ iprop(((cred (tallyAt (cell c (kSend j)) () N) ∗ owe c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gV.slice (Rect.unit (s := S1024x1024) o S128x1024.size inb) hu)
                (.remote (Dev.tc n : Thread nD τ) (gV.slice (Rect.unit (s := S1024x1024) o S128x1024.size inb) hu') sS hsc) sR hsrc hdst hsem) k) Q) := by
  subst hn hS hR ho
  unfold owe
  iintro ⟨#HR, ⟨%W, HO⟩, Hs, ⟨%f, Hd⟩, HtS, HtR⟩ Hk
  iapply (Rounds.wp_send_pointsTo 𝒱₀ ER (sched m) (c : Thread nD τ) none (c' := (fwd c j : Thread nD τ)) (src := gBlk c) (dst := gBlk c)
    (sS := csem (kSend j)) (sem := csem (kRecv j)) (κ₁ := K (c, kSend j)) (κ₂ := K (fwd c j, kRecv j))
    (r₁ := 0) (r₂ := 0) (d₁ := 0) (d₂ := 0) (fs := gAll m) (fd := f) (q := shareTok fullShare 7 j)
    (by rw [duties_cell]; exact Finset.mem_singleton_self _)
    (by show (0 : Fin 7) ∈ (sched m).duties (cell (fwd c j) (kRecv j)) 0; rw [duties_cell]; exact Finset.mem_singleton_self _)
    () () N (credit_g c j) (amount_cell m c (kSend j) 0 0) (amount_cell m (fwd c j) (kRecv j) 0 0) O rfl (W := W)
    (Entails.of_eq (payload_cell m c (kSend j) 0 0).symm) (landing m c j f)) $$ [HO Hs Hd HtS HtR]
  · isplitr; · iapply (inv_at m K c (kSend j)); iexact HR
    isplitr; · iapply (inv_at m K (fwd c j) (kRecv j)); iexact HR
    isplitl [Hs]; · unfold gPts; iexact Hs
    isplitl [Hd]; · unfold gPts; iexact Hd
    isplitl [HO]; · iexact HO
    isplitl [HtS]; · iexact HtS
    isplitr; · iapply (reached_at m K c (kSend j)); iexact HR
    isplitl [HtR]; · iexact HtR
    iapply (reached_at m K (fwd c j) (kRecv j)); iexact HR
  iintro ⟨Hc, HO⟩
  iapply Hk
  isplitl [Hc]; · iexact Hc
  iexists W; iexact HO

/-- A wait for the whole round of cell `k'`: what the round hands over, and the cell closed, its counter at zero. -/
theorem wp_take {α : Type} {Q : α → sProp 𝕄} (c : Dev nD) (k' : Cl) {w : TpuEff nD τ sig (Elt F) Λ₀ .tc PUnit} {a : ℕ}
    (hw : ∀ P : PUnit → sProp 𝕄, wpE (defs₀ (F := F)) 𝒱₀ (c : Thread nD τ) none Set.univ w P = waitSpec (c : Thread nD τ) Set.univ (csem k') a P)
    (ha : a = tot k') (O : CellTallies nD τ sig Unit) (hO : (levAts L lv : sProp 𝕄) ⊢ MayWait (c : Thread nD τ) (csem k') () O)
    {k : PUnit → Prog (TpuEff nD τ sig (Elt F) Λ₀ .tc) α} :
    iprop(records m K ∗ levAts L lv ∗ cred (tallyAt (cell c k') () (tot k')) ∗ owe c O ∗ atPos ER (cell c k') 0 ∅ 0)
      ⊢ iprop(((owe c O ∗ semVal (cell c k') 0 ∗ gain m c k') -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst ha
  unfold owe
  iintro ⟨#HR, #Hlev, Hc, ⟨%W, HO⟩, Hat⟩ Hk
  iapply (Rounds.wp_wait_rest_token 𝒱₀ ER (sched m) (c : Thread nD τ) none (κ := K (c, k')) hw (Set.mem_univ _) () (O := O) (W := W)
      (R := 0) (m := 0) (T := ∅) (by rw [Nat.zero_add]; exact (expect_cell m c k').symm)) $$ [Hc HO Hat]
  · isplitr; · iapply (inv_at m K c k'); iexact HR
    isplitl [Hc]; · iexact Hc
    isplitl [HO]; · iexact HO
    isplitr; · iapply hO; iexact Hlev
    iexact Hat
  iintro ⟨HO, Hat, -, Hpay⟩
  imod (Rounds.cell_close ER (sched m) (Set.mem_univ (K (c, k'))) (fun h => h) (R := 0 + 1) (duties_later m (cell c k'))) $$ [Hat] with Hz
  · isplitr; · iapply (inv_at m K c k'); iexact HR
    iexact Hat
  iapply Hk
  isplitl [HO]; · iexists _; iexact HO
  isplitl [Hz]; · iexact Hz
  iapply (Entails.of_eq (rest_cell m c k')); iexact Hpay

/-- The same for a wait on a copy's semaphore. -/
theorem wp_take_copy {α : Type} {Q : α → sProp 𝕄} (c : Dev nD) (k' : Cl) {sm : DmaSem sig} (hsm : SemLoc.dma sm = csem k') {sp sp' : Space} {s s' : Shape} {e e' : EltTy}
    {src : Memref sig .tc sp' s' e'} {dst : Memref sig .tc sp s e} {hsrc : src.view.WordExact} {hdst : dst.view.WordExact}
    (ha : dst.view.dmaCredit = tot k') (O : CellTallies nD τ sig Unit) (hO : (levAts L lv : sProp 𝕄) ⊢ MayWait (c : Thread nD τ) (csem k') () O)
    {k : PUnit → Prog (TpuEff nD τ sig (Elt F) Λ₀ .tc) α} :
    iprop(records m K ∗ levAts L lv ∗ cred (tallyAt (cell c k') () (tot k')) ∗ owe c O ∗ atPos ER (cell c k') 0 ∅ 0)
      ⊢ iprop(((owe c O ∗ semVal (cell c k') 0 ∗ gain m c k') -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) :=
  wp_take m K c k' (fun P => by rw [← hsm]; exact wpE_waitDma2_eq 𝒱₀ (c : Thread nD τ) none Set.univ P) ha O hO

/-! ## Loads and stores -/

/-- A load of the rows of `p` of the gather buffer, -/
theorem wp_load_g {α : Type} {Q : α → sProp 𝕄} (c p : Dev nD) (q : PosShare TreeShare) (f : (cc0_scratch2 : Ref sig .tc).ty.Contents (Elt F)) {o : Fin 2 → ℕ}
    (ho : o = ![128 * p.val, 0]) {inb : ∀ a, o a + S128x1024.size a ≤ S1024x1024.size a}
    {hl : gV.view.LoadsAt (Rect.unit (s := S1024x1024) o S128x1024.size inb).toLoadRect}
    {k : Vec F S128x1024 .bf16 → Prog (TpuEff nD τ sig (Elt F) Λ₀ .tc) α} :
    gPts c p q f
      ⊢ iprop((gPts c p q f -∗ wp frame (wpE (defs₀ (F := F)) 𝒱₀ (c : Thread nD τ) none) Set.univ (k ((gBlk p).view.read (Elt F) f)) Q)
          -∗ wp frame (wpE (defs₀ (F := F)) 𝒱₀ (c : Thread nD τ) none) Set.univ
              (.op (.load gV (Rect.unit (s := S1024x1024) o S128x1024.size inb).toLoadRect hl) k) Q) := by
  subst ho
  unfold gPts
  exact wp_load_rect 𝒱₀ (c : Thread nD τ) none Set.univ (m := gV) (r := rowRect 1024 p) (Finset.Subset.refl _)

/-- and a store of what `g` holds there; -/
theorem wp_store_g {α : Type} {Q : α → sProp 𝕄} (c p : Dev nD) (f g : (cc0_scratch2 : Ref sig .tc).ty.Contents (Elt F)) {o : Fin 2 → ℕ}
    (ho : o = ![128 * p.val, 0]) {inb : ∀ a, o a + S128x1024.size a ≤ S1024x1024.size a}
    {w : (Rect.unit (s := S1024x1024) o S128x1024.size inb).shape.Idx → Elt F .bf16} (hw : w = (gBlk p).view.read (Elt F) g)
    {hx : (gV.access (Rect.unit (s := S1024x1024) o S128x1024.size inb)).Stores Finset.univ} {hm}
    {k : PUnit → Prog (TpuEff nD τ sig (Elt F) Λ₀ .tc) α} :
    gPts c p fullShare f
      ⊢ iprop((gPts c p fullShare g -∗ wp frame (wpE (defs₀ (F := F)) 𝒱₀ (c : Thread nD τ) none) Set.univ (k ⟨⟩) Q)
          -∗ wp frame (wpE (defs₀ (F := F)) 𝒱₀ (c : Thread nD τ) none) Set.univ
              (.op (.store gV (Rect.unit (s := S1024x1024) o S128x1024.size inb) w Finset.univ hx hm) k) Q) := by
  subst ho
  rw [show gPts c p fullShare g = ((gBlk p).view.loc (c : Thread nD τ) ↦[(gBlk p).view.set]{fullShare} (gBlk p).view.write (Elt F) f w Finset.univ : sProp 𝕄)
    from (pts_written (gBlk p).view c fullShare f g w hw.symm).symm]
  unfold gPts
  exact wp_store 𝒱₀ (c : Thread nD τ) none Set.univ (m := gV) (r := rowRect 1024 p) (Mk := Finset.univ) (Finset.Subset.refl _)

/-- the same of the staged result: the load before a store, whose value nothing reads, and the store. -/
theorem wp_load_o {α : Type} {Q : α → sProp 𝕄} (c p : Dev nD) (f : (cc0_stg0_0 : Ref sig .tc).ty.Contents (Elt F)) {o : Fin 2 → ℕ}
    (ho : o = ![128 * p.val, 0]) {inb : ∀ a, o a + S128x128.size a ≤ S1024x128.size a}
    {hl : oV.view.LoadsAt (Rect.unit (s := S1024x128) o S128x128.size inb).toLoadRect}
    {k : Vec F S128x128 .f32 → Prog (TpuEff nD τ sig (Elt F) Λ₀ .tc) α} :
    oPts c p f
      ⊢ iprop((oPts c p f -∗ wp frame (wpE (defs₀ (F := F)) 𝒱₀ (c : Thread nD τ) none) Set.univ (k ((oBlk p).view.read (Elt F) f)) Q)
          -∗ wp frame (wpE (defs₀ (F := F)) 𝒱₀ (c : Thread nD τ) none) Set.univ
              (.op (.load oV (Rect.unit (s := S1024x128) o S128x128.size inb).toLoadRect hl) k) Q) := by
  subst ho
  unfold oPts
  exact wp_load_rect 𝒱₀ (c : Thread nD τ) none Set.univ (m := oV) (r := rowRect 128 p) (Finset.Subset.refl _)

theorem wp_store_o {α : Type} {Q : α → sProp 𝕄} (c p : Dev nD) (f g : (cc0_stg0_0 : Ref sig .tc).ty.Contents (Elt F)) {o : Fin 2 → ℕ}
    (ho : o = ![128 * p.val, 0]) {inb : ∀ a, o a + S128x128.size a ≤ S1024x128.size a}
    {w : (Rect.unit (s := S1024x128) o S128x128.size inb).shape.Idx → Elt F .f32} (hw : w = (oBlk p).view.read (Elt F) g)
    {hx : (oV.access (Rect.unit (s := S1024x128) o S128x128.size inb)).Stores Finset.univ} {hm}
    {k : PUnit → Prog (TpuEff nD τ sig (Elt F) Λ₀ .tc) α} :
    oPts c p f
      ⊢ iprop((oPts c p g -∗ wp frame (wpE (defs₀ (F := F)) 𝒱₀ (c : Thread nD τ) none) Set.univ (k ⟨⟩) Q)
          -∗ wp frame (wpE (defs₀ (F := F)) 𝒱₀ (c : Thread nD τ) none) Set.univ
              (.op (.store oV (Rect.unit (s := S1024x128) o S128x128.size inb) w Finset.univ hx hm) k) Q) := by
  subst ho
  rw [show oPts c p g = ((oBlk p).view.loc (c : Thread nD τ) ↦[(oBlk p).view.set]{fullShare} (oBlk p).view.write (Elt F) f w Finset.univ : sProp 𝕄)
    from (pts_written (oBlk p).view c fullShare f g w hw.symm).symm]
  unfold oPts
  exact wp_store 𝒱₀ (c : Thread nD τ) none Set.univ (m := oV) (r := rowRect 128 p) (Mk := Finset.univ) (Finset.Subset.refl _)

theorem off_zero : (![0, 0] : Fin 2 → ℕ) = fun _ => 0 := funext fun a => by fin_cases a <;> rfl

end Cert.Gather
-- ==== Proof.Phases.lean ====
/-
# The seven-fold phases

Four times the kernel goes through its seven neighbours: it signals them, it ships its rows to them, it takes what they
shipped and fills in their rows of the result, and it takes back what it lent to its own copies. Each phase has one
assertion, numbered by how many neighbours are done, and one lemma taking it from `j` neighbours to `j + 1`.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MT nD τ sig Unit (Elt F) ℕ UU ℕ

variable (m : (ℓ : Loc nD τ sig) → Buf (Elt F) ℓ)
variable (K : Dev nD × Cl → ℕ)

/-! ## Neighbours left and neighbours done -/

omit [FloatOps F] in
theorem drop_emp (P : sProp 𝕄) : iprop(P ∗ emp) = P := BI.equiv_iff.mp BI.sep_emp
omit [FloatOps F] in
theorem drop_emp' (P : sProp 𝕄) : iprop(emp ∗ P) = P := BI.equiv_iff.mp BI.emp_sep

/-- `Φ` of the neighbours from number `n` on, -/
def left (n : ℕ) (Φ : Fin 7 → sProp 𝕄) : sProp 𝕄 := bigSep (Finset.univ.filter fun j : Fin 7 => n ≤ j.val) Φ
/-- and of those before. -/
def past (n : ℕ) (Φ : Fin 7 → sProp 𝕄) : sProp 𝕄 := bigSep (Finset.univ.filter fun j : Fin 7 => j.val < n) Φ

omit [FloatOps F] in
theorem left_next (j : Fin 7) (Φ : Fin 7 → sProp 𝕄) : left j.val Φ = iprop(Φ j ∗ left (j.val + 1) Φ) := by
  unfold left
  rw [show (Finset.univ.filter fun i : Fin 7 => j.val ≤ i.val) = insert j (Finset.univ.filter fun i : Fin 7 => j.val + 1 ≤ i.val) by
    revert j; decide, BI.bigSep_insert (by simp)]; rfl
omit [FloatOps F] in
theorem past_next (j : Fin 7) (Φ : Fin 7 → sProp 𝕄) : past (j.val + 1) Φ = iprop(Φ j ∗ past j.val Φ) := by
  unfold past
  rw [show (Finset.univ.filter fun i : Fin 7 => i.val < j.val + 1) = insert j (Finset.univ.filter fun i : Fin 7 => i.val < j.val) by
    revert j; decide, BI.bigSep_insert (by simp)]; rfl
omit [FloatOps F] in
theorem left_zero (Φ : Fin 7 → sProp 𝕄) : left 0 Φ = bigSep Finset.univ Φ := by
  unfold left; rw [show (Finset.univ.filter fun i : Fin 7 => 0 ≤ i.val) = Finset.univ by decide]
omit [FloatOps F] in
theorem past_zero (Φ : Fin 7 → sProp 𝕄) : past 0 Φ = iprop(emp) := by
  unfold past; rw [show (Finset.univ.filter fun i : Fin 7 => i.val < 0) = ∅ by decide, bigSep_empty]; rfl
omit [FloatOps F] in
theorem left_end (Φ : Fin 7 → sProp 𝕄) : left 7 Φ = iprop(emp) := by
  unfold left; rw [show (Finset.univ.filter fun i : Fin 7 => 7 ≤ i.val) = ∅ by decide, bigSep_empty]; rfl
omit [FloatOps F] in
theorem past_end (Φ : Fin 7 → sProp 𝕄) : past 7 Φ = bigSep Finset.univ Φ := by
  unfold past; rw [show (Finset.univ.filter fun i : Fin 7 => i.val < 7) = Finset.univ by decide]

/-! ## Signalling -/

/-- `n` neighbours signalled: for each other, the right to signal it and its rows of `c`'s gather buffer. -/
def Readying (c : Dev nD) (n : ℕ) : sProp 𝕄 :=
  iprop(owe c (owedFrom (dueRecv c) 0 + owedFrom (dueBar c) n)
    ∗ left n fun j => iprop(dutyTok ER (cell (fwd c j) kBar) 0 j ∗ ∃ f, gPts c (fwd c j) fullShare f))

theorem ready_next {α : Type} {Q : α → sProp 𝕄} (c : Dev nD) (j : Fin 7) {n : Dev nD} (hn : n = fwd c j) {a : ℕ} (ha : a = 1)
    {k : PUnit → Prog (TpuEff nD τ sig (Elt F) Λ₀ .tc) α} :
    iprop(records m K ∗ Readying c j.val)
      ⊢ iprop((Readying c (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS a) k) Q) := by
  unfold Readying
  rw [left_next, owedFrom_peel (dueBar c) j, ← add_assoc]
  iintro ⟨#HR, HO, ⟨Ht, Hg⟩, Hrest⟩ Hk
  iapply (wp_ready m K c j hn ha) $$ [HO Ht Hg]
  · isplitr; · iexact HR
    isplitl [HO]; · iexact HO
    isplitl [Ht]; · iexact Ht
    iexact Hg
  iintro HO
  iapply Hk
  isplitl [HO]; · iexact HO
  iexact Hrest

/-- All signalled: receive credit only is owed. -/
theorem Readying_end (c : Dev nD) : Readying (F := F) c 7 = owe c (owedFrom (dueRecv c) 0) := by
  unfold Readying
  rw [left_end, owedFrom_end, add_zero, drop_emp]

/-- Before anything has been shipped a semaphore that is neither barrier nor receive may be waited for. -/
theorem mayWait_recv (c : Dev nD) (sm : SemLoc sig) (hsm : lv ((c : Thread nD τ), sm) () = 0) (n : ℕ) :
    (levAts L lv : sProp 𝕄) ⊢ MayWait (c : Thread nD τ) sm () (owedFrom (dueRecv c) n) := by
  have h := mayWait_low (F := F) c sm hsm n 7
  rwa [owedFrom_end, add_zero] at h

/-! ## Shipping -/

/-- `n` neighbours shipped to: for each other, a share of `c`'s rows, the place they go, and the rights to copy; for each
    done, the credit of its send. -/
def Shipping (c : Dev nD) (n : ℕ) : sProp 𝕄 :=
  iprop(owe c (owedFrom (dueRecv c) n)
    ∗ (left n fun j => iprop(gPts c c (shareTok fullShare 7 j) (gAll m) ∗ (∃ f, gPts (fwd c j) c fullShare f)
        ∗ dutyTok ER (cell c (kSend j)) 0 0 ∗ dutyTok ER (cell (fwd c j) (kRecv j)) 0 0))
    ∗ past n fun j => cred (tallyAt (cell c (kSend j)) () N))

theorem ship_next {α : Type} {Q : α → sProp 𝕄} (c : Dev nD) (j : Fin 7) {n : Dev nD} (hn : n = fwd c j) {sS sR : SemLoc sig} (hS : sS = csem (kSend j)) (hR : sR = csem (kRecv j))
    {o : Fin 2 → ℕ} (ho : o = ![128 * c.val, 0]) {inb : ∀ a, o a + S128x1024.size a ≤ S1024x1024.size a} {hu hu'}
    {hsc : (gV.slice (Rect.unit (s := S1024x1024) o S128x1024.size inb) hu' : Memref sig (Dev.tc n : Thread nD τ).2.kind .vmem S128x1024 .bf16).view.ref.isScScratch = false}
    {hsrc : (gV.slice (Rect.unit (s := S1024x1024) o S128x1024.size inb) hu).view.WordExact}
    {hdst : (gV.slice (Rect.unit (s := S1024x1024) o S128x1024.size inb) hu').view.WordExact}
    {hsem : DmaTarget.Typed .vmem sR (.remote (Dev.tc n : Thread nD τ) (gV.slice (Rect.unit (s := S1024x1024) o S128x1024.size inb) hu') sS hsc)}
    {k : PUnit → Prog (TpuEff nD τ sig (Elt F) Λ₀ .tc) α} :
    iprop(records m K ∗ Shipping m c j.val)
      ⊢ iprop((Shipping m c (j.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gV.slice (Rect.unit (s := S1024x1024) o S128x1024.size inb) hu)
                (.remote (Dev.tc n : Thread nD τ) (gV.slice (Rect.unit (s := S1024x1024) o S128x1024.size inb) hu') sS hsc) sR hsrc hdst hsem) k) Q) := by
  unfold Shipping
  rw [left_next, past_next, owedFrom_peel (dueRecv c) j]
  iintro ⟨#HR, HO, ⟨⟨Hs, Hd, HtS, HtR⟩, Hrest⟩, Hdone⟩ Hk
  iapply (wp_ship m K c j hn hS hR ho) $$ [HO Hs Hd HtS HtR]
  · isplitr; · iexact HR
    isplitl [HO]; · iexact HO
    isplitl [Hs]; · iexact Hs
    isplitl [Hd]; · iexact Hd
    isplitl [HtS]; · iexact HtS
    iexact HtR
  iintro ⟨Hc, HO⟩
  iapply Hk
  isplitl [HO]; · iexact HO
  isplitl [Hrest]; · iexact Hrest
  isplitl [Hc]; · iexact Hc
  iexact Hdone

/-- All shipped: nothing is owed. -/
theorem Shipping_end (c : Dev nD) :
    Shipping m c 7 = iprop(owe c 0 ∗ bigSep Finset.univ fun j : Fin 7 => cred (tallyAt (cell c (kSend j)) () N)) := by
  unfold Shipping
  rw [left_end, past_end, owedFrom_end, drop_emp']

/-! ## Taking -/

/-- `n` of the waits on the cells `kf` done (all receives, or all sends). -/
def Taking (c : Dev nD) (kf : Fin 7 → Cl) (n : ℕ) : sProp 𝕄 :=
  iprop(owe c 0 ∗ (left n fun j => iprop(cred (tallyAt (cell c (kf j)) () (tot (kf j))) ∗ atPos ER (cell c (kf j)) 0 ∅ 0))
    ∗ past n fun j => iprop(semVal (cell c (kf j)) 0 ∗ gain m c (kf j)))

theorem take_next {α : Type} {Q : α → sProp 𝕄} (c : Dev nD) (kf : Fin 7 → Cl) (j : Fin 7) {sm : DmaSem sig} (hsm : SemLoc.dma sm = csem (kf j)) {sp sp' : Space} {s s' : Shape} {e e' : EltTy}
    {src : Memref sig .tc sp' s' e'} {dst : Memref sig .tc sp s e} {hsrc : src.view.WordExact} {hdst : dst.view.WordExact}
    (ha : dst.view.dmaCredit = tot (kf j)) {k : PUnit → Prog (TpuEff nD τ sig (Elt F) Λ₀ .tc) α} :
    iprop(records m K ∗ levAts L lv ∗ Taking m c kf j.val)
      ⊢ iprop((Taking m c kf (j.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  unfold Taking
  rw [left_next, past_next]
  iintro ⟨#HR, #Hlev, HO, ⟨⟨Hc, Hat⟩, Hrest⟩, Hdone⟩ Hk
  iapply (wp_take_copy m K c (kf j) hsm ha 0 (mayWait_free c _)) $$ [HO Hc Hat]
  · isplitr; · iexact HR
    isplitr; · iexact Hlev
    isplitl [Hc]; · iexact Hc
    isplitl [HO]; · iexact HO
    iexact Hat
  iintro ⟨HO, Hz, Hg⟩
  iapply Hk
  isplitl [HO]; · iexact HO
  isplitl [Hrest]; · iexact Hrest
  isplitl [Hz Hg]
  · isplitl [Hz]; · iexact Hz
    iexact Hg
  iexact Hdone

theorem gain_recv (c : Dev nD) (j : Fin 7) : gain m c (kRecv j) = gPts c (bwd c j) fullShare (gAll m) := bigSep_singleton
theorem gain_send (c : Dev nD) (j : Fin 7) : gain m c (kSend j) = gPts c c (shareTok fullShare 7 j) (gAll m) := bigSep_singleton

/-! ## The received rows and the result -/

/-- The vector-memory buffer number `i`. -/
abbrev vbuf (i : Fin (sig.nNear .tc .vmem)) (hn : sig.names .tc .vmem i = true) : Ref sig .tc := ⟨.vmem, i, hn⟩

/-- A load of a whole buffer. -/
theorem wp_load_whole {α : Type} {Q : α → sProp 𝕄} (c : Dev nD) (i : Fin (sig.nNear .tc .vmem)) {hn : sig.names .tc .vmem i = true} (f : (vbuf i hn).ty.Contents (Elt F)) {o : Fin (vbuf i hn).ty.shape.rank → ℕ} (ho : o = fun _ => 0)
    {inb : ∀ a, o a + (vbuf i hn).ty.shape.size a ≤ (vbuf i hn).ty.shape.size a}
    {hl : (Memref.whole (vbuf i hn)).view.LoadsAt (Rect.unit (s := (vbuf i hn).ty.shape) o (vbuf i hn).ty.shape.size inb).toLoadRect}
    {k : Vec F (vbuf i hn).ty.shape (vbuf i hn).ty.elt → Prog (TpuEff nD τ sig (Elt F) Λ₀ .tc) α} :
    bPts c (vbuf i hn) f
      ⊢ iprop((bPts c (vbuf i hn) f -∗ wp frame (wpE (defs₀ (F := F)) 𝒱₀ (c : Thread nD τ) none) Set.univ (k f) Q)
          -∗ wp frame (wpE (defs₀ (F := F)) 𝒱₀ (c : Thread nD τ) none) Set.univ
              (.op (.load (Memref.whole (vbuf i hn)) (Rect.unit (s := (vbuf i hn).ty.shape) o (vbuf i hn).ty.shape.size inb).toLoadRect hl) k) Q) := by
  have h := wp_load (defs := defs₀ (F := F)) 𝒱₀ (c : Thread nD τ) none (Γ := .empty) Set.univ (m := Memref.whole (vbuf i hn)) (hl := hl) (k := k) (Q := Q) (q := fullShare) (f := f) (Finset.subset_univ _)
  rw [Memref.readAt_unit_zero (Elt F) (vbuf i hn) ho _ f] at h
  unfold bPts
  exact h

/-- A store over a whole buffer. -/
theorem wp_store_whole {α : Type} {Q : α → sProp 𝕄} (c : Dev nD) (i : Fin (sig.nNear .tc .vmem)) {hn : sig.names .tc .vmem i = true} (f w : (vbuf i hn).ty.Contents (Elt F)) {o : Fin (vbuf i hn).ty.shape.rank → ℕ} (ho : o = fun _ => 0)
    {inb : ∀ a, o a + (vbuf i hn).ty.shape.size a ≤ (vbuf i hn).ty.shape.size a}
    {hx : ((Memref.whole (vbuf i hn)).access (Rect.unit (s := (vbuf i hn).ty.shape) o (vbuf i hn).ty.shape.size inb)).Stores Finset.univ} {hm}
    {k : PUnit → Prog (TpuEff nD τ sig (Elt F) Λ₀ .tc) α} :
    bPts c (vbuf i hn) f
      ⊢ iprop((bPts c (vbuf i hn) w -∗ wp frame (wpE (defs₀ (F := F)) 𝒱₀ (c : Thread nD τ) none) Set.univ (k ⟨⟩) Q)
          -∗ wp frame (wpE (defs₀ (F := F)) 𝒱₀ (c : Thread nD τ) none) Set.univ
              (.op (.store (Memref.whole (vbuf i hn)) (Rect.unit (s := (vbuf i hn).ty.shape) o (vbuf i hn).ty.shape.size inb) w Finset.univ hx hm) k) Q) := by
  have h := wp_store (defs := defs₀ (F := F)) 𝒱₀ (c : Thread nD τ) none (Γ := .empty) Set.univ (m := Memref.whole (vbuf i hn)) (r := Rect.unit (s := (vbuf i hn).ty.shape) o (vbuf i hn).ty.shape.size inb)
    (w := w) (Mk := Finset.univ) (hx := hx) (hm := hm) (k := k) (Q := Q) (f := f) (Finset.subset_univ _)
  rw [Memref.write_access_unit_zero_univ (Elt F) (vbuf i hn) ho inb f w] at h
  unfold bPts
  exact h

/-- Rows received may be read. -/
theorem read_taken {α : Type} {Q : α → sProp 𝕄} (c : Dev nD) (j : Fin 7) {o : Fin 2 → ℕ}
    (ho : o = ![128 * (bwd c j).val, 0]) {inb : ∀ a, o a + S128x1024.size a ≤ S1024x1024.size a}
    {hl : gV.view.LoadsAt (Rect.unit (s := S1024x1024) o S128x1024.size inb).toLoadRect}
    {k : Vec F S128x1024 .bf16 → Prog (TpuEff nD τ sig (Elt F) Λ₀ .tc) α} :
    Taking m c kRecv (j.val + 1)
      ⊢ iprop((Taking m c kRecv (j.val + 1) -∗ wp frame (wpE (defs₀ (F := F)) 𝒱₀ (c : Thread nD τ) none) Set.univ (k (k0_pay1 (xOf m (bwd c j)))) Q)
          -∗ wp frame (wpE (defs₀ (F := F)) 𝒱₀ (c : Thread nD τ) none) Set.univ
              (.op (.load gV (Rect.unit (s := S1024x1024) o S128x1024.size inb).toLoadRect hl) k) Q) := by
  unfold Taking
  rw [past_next, gain_recv, ← read_gAll m (bwd c j)]
  iintro ⟨HO, Hl, ⟨Hz, Hg⟩, Hp⟩ Hk
  iapply (wp_load_g c (bwd c j) fullShare (gAll m) ho) $$ [Hg]
  · iexact Hg
  iintro Hg
  iapply Hk
  isplitl [HO]; · iexact HO
  isplitl [Hl]; · iexact Hl
  isplitr [Hp]
  · isplitl [Hz]; · iexact Hz
    iexact Hg
  iexact Hp

/-- The wait for the rows of the device `j + 1` places before, and the loads of those rows and of the converted `w`. -/
theorem recv_next {α : Type} {Q : α → sProp 𝕄} (c : Dev nD) (j : Fin 7) (fb : (cc0_scratch3 : Ref sig .tc).ty.Contents (Elt F))
    {sm : DmaSem sig} (hsm : SemLoc.dma sm = csem (kRecv j)) {sp sp' : Space} {s s' : Shape} {e e' : EltTy}
    {src : Memref sig .tc sp' s' e'} {dst : Memref sig .tc sp s e} {hsrc : src.view.WordExact} {hdst : dst.view.WordExact}
    (ha : dst.view.dmaCredit = tot (kRecv j)) {o : Fin 2 → ℕ}
    (ho : o = ![128 * (bwd c j).val, 0]) {inb : ∀ a, o a + S128x1024.size a ≤ S1024x1024.size a}
    {hl : gV.view.LoadsAt (Rect.unit (s := S1024x1024) o S128x1024.size inb).toLoadRect} {o' : Fin 2 → ℕ} (ho' : o' = fun _ => 0) {inb'}
    {hl' : bV.view.LoadsAt (Rect.unit (s := S1024x128) o' S1024x128.size inb').toLoadRect}
    {k : Vec F S128x1024 .bf16 → Vec F S1024x128 .bf16 → Prog (TpuEff nD τ sig (Elt F) Λ₀ .tc) α} :
    iprop(records m K ∗ levAts L lv ∗ Taking m c kRecv j.val ∗ bPts c cc0_scratch3 fb)
      ⊢ iprop(((Taking m c kRecv (j.val + 1) ∗ bPts c cc0_scratch3 fb)
            -∗ wp frame (wpE (defs₀ (F := F)) 𝒱₀ (c : Thread nD τ) none) Set.univ (k (k0_pay1 (xOf m (bwd c j))) fb) Q)
          -∗ wp frame (wpE (defs₀ (F := F)) 𝒱₀ (c : Thread nD τ) none) Set.univ
              (.op (.waitDma2 sm src dst hsrc hdst) fun _ =>
                .op (.load gV (Rect.unit (s := S1024x1024) o S128x1024.size inb).toLoadRect hl) fun v =>
                  .op (.load bV (Rect.unit (s := S1024x128) o' S1024x128.size inb').toLoadRect hl') fun v' => k v v') Q) := by
  iintro ⟨#HR, #Hlev, HT, Hb⟩ Hk
  iapply (take_next m K c kRecv j hsm ha) $$ [HT]
  · isplitr; · iexact HR
    isplitr; · iexact Hlev
    iexact HT
  iintro HT
  iapply (read_taken m c j ho) $$ [HT]
  · iexact HT
  iintro HT
  iapply (wp_load_whole c 4 fb ho') $$ [Hb]
  · iexact Hb
  iintro Hb
  iapply Hk
  isplitl [HT]; · iexact HT
  iexact Hb

/-- The rows of `n` neighbours of the result filled in. -/
def Filling (c : Dev nD) (fo : (cc0_stg0_0 : Ref sig .tc).ty.Contents (Elt F)) (n : ℕ) : sProp 𝕄 :=
  iprop((left n fun j => oPts c (bwd c j) fo) ∗ past n fun j => oPts c (bwd c j) (oOf m c))

theorem fill_next {α : Type} {Q : α → sProp 𝕄} (c : Dev nD) (j : Fin 7) (fo : (cc0_stg0_0 : Ref sig .tc).ty.Contents (Elt F))
    {o : Fin 2 → ℕ} (ho : o = ![128 * (bwd c j).val, 0]) {inb : ∀ a, o a + S128x128.size a ≤ S1024x128.size a}
    {hl : oV.view.LoadsAt (Rect.unit (s := S1024x128) o S128x128.size inb).toLoadRect}
    {w : (Rect.unit (s := S1024x128) o S128x128.size inb).shape.Idx → Elt F .f32} (hw : w = k0_pay3 (k0_pay1 (xOf m (bwd c j))) (k0_pay2 (wOf m c)))
    {hx : (oV.access (Rect.unit (s := S1024x128) o S128x128.size inb)).Stores Finset.univ} {hm}
    {k : PUnit → Prog (TpuEff nD τ sig (Elt F) Λ₀ .tc) α} :
    Filling m c fo j.val
      ⊢ iprop((Filling m c fo (j.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.load oV (Rect.unit (s := S1024x128) o S128x128.size inb).toLoadRect hl) fun _ =>
                .op (.store oV (Rect.unit (s := S1024x128) o S128x128.size inb) w Finset.univ hx hm) k) Q) := by
  unfold Filling
  rw [left_next, past_next]
  iintro ⟨⟨Ho, Hl⟩, Hp⟩ Hk
  iapply (wp_load_o c (bwd c j) fo ho) $$ [Ho]
  · iexact Ho
  iintro Ho
  iapply (wp_store_o c (bwd c j) fo (oOf m c) ho (hw.trans (read_oOf m c (bwd c j)).symm)) $$ [Ho]
  · iexact Ho
  iintro Ho
  iapply Hk
  isplitl [Hl]; · iexact Hl
  isplitl [Ho]; · iexact Ho
  iexact Hp

end Cert.Gather
-- ==== Proof.Body.lean ====
/-
# One device's run of the kernel's body

The body is printed in eleven parts and a last wait. Each part has one lemma, from what the device holds before it to what
it holds after; the body's lemma puts them together.
-/
module

public import proofs.«01_k».proof.Proof.Phases

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MT nD τ sig Unit (Elt F) ℕ UU ℕ

variable (m : (ℓ : Loc nD τ sig) → Buf (Elt F) ℓ)
variable (K : Dev nD × Cl → ℕ)

variable (h0 : xH.IsWhole) (h1 : wH.IsWhole) (h2 : oV.IsWhole) (h3 : xV.IsWhole) (h4 : wV.IsWhole) (h5 : gV.IsWhole) (h6 : bV.IsWhole)

/-! ## Semaphores and devices as the program spells them -/

theorem fwd_of {c : Dev nD} {j : Fin 7} {n : ℕ} (hn : n < 8) (h : n = (c.val + (j.val + 1)) % 8) : (⟨n, hn⟩ : Dev nD) = fwd c j := Fin.ext h

/-- The copy of `x` lands as `x`, -/
theorem fetched_x (c : Dev nD) (f : (cc0_scratch0 : Ref sig .tc).ty.Contents (Elt F)) :
    iprop((xV.view.loc (c : Thread nD τ) ↦[xV.view.set]{fullShare} (xV.view.write (Elt F) f (xH.view.read (Elt F) (xOf m c)) Finset.univ))
        ∗ (xH.view.loc (c : Thread nD τ) ↦[xH.view.set]{fullShare} xOf m c)) ⊢ pay m c kX 0 := by
  rw [pts_written xV.view c fullShare f (xOf m c) (xH.view.read (Elt F) (xOf m c)) rfl, View.set_whole, View.set_whole]
  unfold pay bPts
  exact BI.sep_comm
/-- and that of `w` as `w`. -/
theorem fetched_w (c : Dev nD) (f : (cc0_scratch1 : Ref sig .tc).ty.Contents (Elt F)) :
    iprop((wV.view.loc (c : Thread nD τ) ↦[wV.view.set]{fullShare} (wV.view.write (Elt F) f (wH.view.read (Elt F) (wOf m c)) Finset.univ))
        ∗ (wH.view.loc (c : Thread nD τ) ↦[wH.view.set]{fullShare} wOf m c)) ⊢ pay m c kW 0 := by
  rw [pts_written wV.view c fullShare f (wOf m c) (wH.view.read (Elt F) (wOf m c)) rfl, View.set_whole, View.set_whole]
  unfold pay bPts
  exact BI.sep_comm

theorem gain_x (c : Dev nD) : gain m c kX = iprop(bPts c main_arg0 (xOf m c) ∗ bPts c cc0_scratch0 (xOf m c)) := bigSep_singleton
theorem gain_w (c : Dev nD) : gain m c kW = iprop(bPts c main_arg1 (wOf m c) ∗ bPts c cc0_scratch1 (wOf m c)) := bigSep_singleton

/-! ## The parts -/

/-- Part 1: both local copies begun, four neighbours signalled. -/
theorem part1_run (c : Dev nD) {Q : (Σ' (d0 : Dev nD) (v2 : BitVec 32) (v7 : Sems sig S_), BitVec 32) → sProp 𝕄} :
    iprop(records m K ∗ (bPts c main_arg0 (xOf m c) ∗ (∃ f, bPts c cc0_scratch0 f) ∗ dutyTok ER (cell c kX) 0 0)
        ∗ (bPts c main_arg1 (wOf m c) ∗ (∃ f, bPts c cc0_scratch1 f) ∗ dutyTok ER (cell c kW) 0 0) ∗ Readying c 0)
      ⊢ iprop((∀ v2 v25, ((cred (tallyAt (cell c kX) () Nx) ∗ cred (tallyAt (cell c kW) () Nw) ∗ Readying c 4) -∗ Q ⟨c, v2, SemArray.scalar (sig.barrier 0 rfl), v25⟩))
          -∗ wp frame (wpE (defs₀ (F := F)) 𝒱₀ (c : Thread nD τ) none) Set.univ
              (k0_part1 xH h0 wH h1 oV h2 xV h3 wV h4 gV h5 bV h6 cc0_scratch4 cc0_scratch5 cc0_scratch6) Q) := by
  rw [k0_part1_eq_skeleton]
  unfold k0_part1_skel
  simp only [semSignalWord, Prog.lift, Prog.bind_op, Prog.bind_ret, Prog.pure_eq_ret, wp_deviceId]
  iintro ⟨#HR, ⟨Hx, ⟨%fx, Hxv⟩, Htx⟩, ⟨Hw, ⟨%fw, Hwv⟩, Htw⟩, HB⟩ Hk
  iapply (wp_fetch m K c kX rfl (Finset.mem_singleton_self _) (src := xH) (dst := xV) (xOf m c) fx rfl (fetched_x m c fx)) $$ [Hx Hxv Htx]
  · isplitr; · iexact HR
    isplitl [Hx]; · rw [View.set_whole]; unfold bPts; iexact Hx
    isplitl [Hxv]; · rw [View.set_whole]; unfold bPts; iexact Hxv
    iexact Htx
  iintro Hcx
  iapply (wp_fetch m K c kW rfl (Finset.mem_singleton_self _) (src := wH) (dst := wV) (wOf m c) fw rfl (fetched_w m c fw)) $$ [Hw Hwv Htw]
  · isplitr; · iexact HR
    isplitl [Hw]; · rw [View.set_whole]; unfold bPts; iexact Hw
    isplitl [Hwv]; · rw [View.set_whole]; unfold bPts; iexact Hwv
    iexact Htw
  iintro Hcw
  iapply (ready_next m K c 0 (fwd_of _ (k0_dev1_eq c)) (by decide)) $$ [HB]
  · isplitr; · iexact HR
    iexact HB
  iintro HB
  iapply (ready_next m K c 1 (fwd_of _ (k0_dev2_eq c)) (by decide)) $$ [HB]
  · isplitr; · iexact HR
    iexact HB
  iintro HB
  iapply (ready_next m K c 2 (fwd_of _ (k0_dev3_eq c)) (by decide)) $$ [HB]
  · isplitr; · iexact HR
    iexact HB
  iintro HB
  iapply (ready_next m K c 3 (fwd_of _ (k0_dev4_eq c)) (by decide)) $$ [HB]
  · isplitr; · iexact HR
    iexact HB
  iintro HB
  rw [wp_ret]
  imodintro
  iapply Hk
  isplitl [Hcx]; · iexact Hcx
  isplitl [Hcw]; · iexact Hcw
  iexact HB

/-- Part 2: the other three signalled, the barrier passed, the own rows converted into the gather buffer. -/
theorem part2_run (c : Dev nD) (v2 v25 : BitVec 32) {Q : PUnit → sProp 𝕄} :
    iprop(records m K ∗ levAts L lv ∗ Readying c 4 ∗ (cred (tallyAt (cell c kBar) () 7) ∗ atPos ER (cell c kBar) 0 ∅ 0)
        ∗ (cred (tallyAt (cell c kX) () Nx) ∗ atPos ER (cell c kX) 0 ∅ 0) ∗ (∃ f, gPts c c fullShare f))
      ⊢ iprop(((owe c (owedFrom (dueRecv c) 0) ∗ (semVal (cell c kBar) 0 ∗ gain m c kBar) ∗ (semVal (cell c kX) 0 ∗ gain m c kX)
            ∗ gPts c c fullShare (gAll m)) -∗ Q ⟨⟩)
          -∗ wp frame (wpE (defs₀ (F := F)) 𝒱₀ (c : Thread nD τ) none) Set.univ
              (k0_part2 xH h0 wH h1 oV h2 xV h3 wV h4 gV h5 bV h6 cc0_scratch4 cc0_scratch5 cc0_scratch6 c v2 (SemArray.scalar (sig.barrier 0 rfl)) v25) Q) := by
  rw [k0_part2_eq_skeleton]
  unfold k0_part2_skel
  simp only [semSignalWord, semWaitWord, Prog.lift, Prog.bind_op, Prog.bind_ret, Prog.pure_eq_ret, wp_deviceId]
  iintro ⟨#HR, #Hlev, HB, ⟨Hcb, Hab⟩, ⟨Hcx, Hax⟩, ⟨%fg, Hg⟩⟩ Hk
  iapply (ready_next m K c 4 (fwd_of _ (k0_dev5_eq c)) (by decide)) $$ [HB]
  · isplitr; · iexact HR
    iexact HB
  iintro HB
  iapply (ready_next m K c 5 (fwd_of _ (k0_dev6_eq c)) (by decide)) $$ [HB]
  · isplitr; · iexact HR
    iexact HB
  iintro HB
  iapply (ready_next m K c 6 (fwd_of _ (k0_dev7_eq c)) (by decide)) $$ [HB]
  · isplitr; · iexact HR
    iexact HB
  iintro HB
  ihave HB := (Entails.of_eq (Readying_end c)) $$ [HB]
  · iexact HB
  iapply (wp_take m K c kBar (fun P => wpE_semWait_eq 𝒱₀ (c : Thread nD τ) none Set.univ P) (by decide) _ (mayWait_bar c 0)) $$ [HB Hcb Hab]
  · isplitr; · iexact HR
    isplitr; · iexact Hlev
    isplitl [Hcb]; · iexact Hcb
    isplitl [HB]; · iexact HB
    iexact Hab
  iintro ⟨HO, Hzb, Hgb⟩
  iapply (wp_take_copy m K c kX (by rfl) (by rfl) _ (mayWait_recv c (csem kX) (lv_cell c kX) 0)) $$ [HO Hcx Hax]
  · isplitr; · iexact HR
    isplitr; · iexact Hlev
    isplitl [Hcx]; · iexact Hcx
    isplitl [HO]; · iexact HO
    iexact Hax
  rw [gain_x]
  iintro ⟨HO, Hzx, Hx, Hxv⟩
  iapply (wp_load_whole c 1 (xOf m c) off_zero) $$ [Hxv]
  · iexact Hxv
  iintro Hxv
  iapply (wp_load_g c c fullShare fg (k0_off1_eq c)) $$ [Hg]
  · iexact Hg
  iintro Hg
  iapply (wp_store_g c c fg (gAll m) (k0_off1_eq c) (read_gAll m c).symm) $$ [Hg]
  · iexact Hg
  iintro Hg
  rw [wp_ret]
  imodintro
  iapply Hk
  isplitl [HO]; · iexact HO
  isplitl [Hzb Hgb]
  · isplitl [Hzb]; · iexact Hzb
    iexact Hgb
  isplitr [Hg]
  · isplitl [Hzx]; · iexact Hzx
    isplitl [Hx]; · iexact Hx
    iexact Hxv
  iexact Hg

/-- Part 3: three copies issued. -/
theorem part3_run (c : Dev nD) (v2 : BitVec 32) {Q : (Σ' (v82 : BitVec 32), BitVec 32) → sProp 𝕄} :
    iprop(records m K ∗ Shipping m c 0)
      ⊢ iprop((∀ v82 v, ((Shipping m c 3) -∗ Q ⟨v82, v⟩))
          -∗ wp frame (wpE (defs₀ (F := F)) 𝒱₀ (c : Thread nD τ) none) Set.univ
              (k0_part3 xH h0 wH h1 oV h2 xV h3 wV h4 gV h5 bV h6 cc0_scratch4 cc0_scratch5 cc0_scratch6 c v2) Q) := by
  rw [k0_part3_eq_skeleton]
  unfold k0_part3_skel
  simp only [semSignalWord, semWaitWord, Prog.lift, Prog.bind_op, Prog.bind_ret, Prog.pure_eq_ret, wp_deviceId]
  iintro ⟨#HR, HS⟩ Hk
  iapply (ship_next m K c 0 (fwd_of _ (k0_dev8_eq c)) rfl rfl (k0_off2_eq c)) $$ [HS]
  · isplitr; · iexact HR
    iexact HS
  iintro HS
  iapply (ship_next m K c 1 (fwd_of _ (k0_dev9_eq c)) rfl rfl (k0_off2_eq c)) $$ [HS]
  · isplitr; · iexact HR
    iexact HS
  iintro HS
  iapply (ship_next m K c 2 (fwd_of _ (k0_dev10_eq c)) rfl rfl (k0_off2_eq c)) $$ [HS]
  · isplitr; · iexact HR
    iexact HS
  iintro HS
  rw [wp_ret]
  imodintro
  iapply Hk
  iexact HS

/-- Part 4: two more. -/
theorem part4_run (c : Dev nD) (v2 v82 v : BitVec 32) {Q : PUnit → sProp 𝕄} :
    iprop(records m K ∗ Shipping m c 3)
      ⊢ iprop(((Shipping m c 5) -∗ Q ⟨⟩)
          -∗ wp frame (wpE (defs₀ (F := F)) 𝒱₀ (c : Thread nD τ) none) Set.univ
              (k0_part4 xH h0 wH h1 oV h2 xV h3 wV h4 gV h5 bV h6 cc0_scratch4 cc0_scratch5 cc0_scratch6 c v2 v82 v) Q) := by
  rw [k0_part4_eq_skeleton]
  unfold k0_part4_skel
  simp only [semSignalWord, semWaitWord, Prog.lift, Prog.bind_op, Prog.bind_ret, Prog.pure_eq_ret, wp_deviceId]
  iintro ⟨#HR, HS⟩ Hk
  iapply (ship_next m K c 3 (fwd_of _ (k0_dev11_eq c)) rfl rfl (k0_off2_eq c)) $$ [HS]
  · isplitr; · iexact HR
    iexact HS
  iintro HS
  iapply (ship_next m K c 4 (fwd_of _ (k0_dev12_eq c)) rfl rfl (k0_off2_eq c)) $$ [HS]
  · isplitr; · iexact HR
    iexact HS
  iintro HS
  rw [wp_ret]
  imodintro
  iapply Hk
  iexact HS

/-- Part 5: the last two; then `w` converted, and the own rows of the result. -/
theorem part5_run (c : Dev nD) (v2 : BitVec 32) (fo : (cc0_stg0_0 : Ref sig .tc).ty.Contents (Elt F)) {Q : BitVec 32 → sProp 𝕄} :
    iprop(records m K ∗ levAts L lv ∗ Shipping m c 5 ∗ (cred (tallyAt (cell c kW) () Nw) ∗ atPos ER (cell c kW) 0 ∅ 0)
        ∗ (∃ f, bPts c cc0_scratch3 f) ∗ gPts c c (shareDrop fullShare 7) (gAll m) ∗ oPts c c fo)
      ⊢ iprop((∀ v146, ((owe c 0 ∗ (bigSep Finset.univ fun j : Fin 7 => cred (tallyAt (cell c (kSend j)) () N)) ∗ (semVal (cell c kW) 0 ∗ gain m c kW)
            ∗ bPts c cc0_scratch3 (k0_pay2 (wOf m c)) ∗ gPts c c (shareDrop fullShare 7) (gAll m) ∗ oPts c c (oOf m c)) -∗ Q v146))
          -∗ wp frame (wpE (defs₀ (F := F)) 𝒱₀ (c : Thread nD τ) none) Set.univ
              (k0_part5 xH h0 wH h1 oV h2 xV h3 wV h4 gV h5 bV h6 cc0_scratch4 cc0_scratch5 cc0_scratch6 c v2) Q) := by
  rw [k0_part5_eq_skeleton]
  unfold k0_part5_skel
  simp only [semSignalWord, semWaitWord, Prog.lift, Prog.bind_op, Prog.bind_ret, Prog.pure_eq_ret, wp_deviceId]
  iintro ⟨#HR, #Hlev, HS, ⟨Hcw, Haw⟩, ⟨%fb, Hb⟩, Hg, Ho⟩ Hk
  iapply (ship_next m K c 5 (fwd_of _ (k0_dev13_eq c)) rfl rfl (k0_off2_eq c)) $$ [HS]
  · isplitr; · iexact HR
    iexact HS
  iintro HS
  iapply (ship_next m K c 6 (fwd_of _ (k0_dev14_eq c)) rfl rfl (k0_off2_eq c)) $$ [HS]
  · isplitr; · iexact HR
    iexact HS
  iintro HS
  ihave HS := (Entails.of_eq (Shipping_end m c)) $$ [HS]
  · iexact HS
  icases HS with ⟨HO, Hcs⟩
  iapply (wp_take_copy m K c kW (by rfl) (by rfl) _ (mayWait_free c _)) $$ [HO Hcw Haw]
  · isplitr; · iexact HR
    isplitr; · iexact Hlev
    isplitl [Hcw]; · iexact Hcw
    isplitl [HO]; · iexact HO
    iexact Haw
  rw [gain_w]
  iintro ⟨HO, Hzw, Hw, Hwv⟩
  iapply (wp_load_whole c 2 (wOf m c) off_zero) $$ [Hwv]
  · iexact Hwv
  iintro Hwv
  iapply (wp_load_whole c 4 fb off_zero) $$ [Hb]
  · iexact Hb
  iintro Hb
  iapply (wp_store_whole c 4 fb (k0_pay2 (wOf m c)) off_zero) $$ [Hb]
  · iexact Hb
  iintro Hb
  iapply (wp_load_g c c (shareDrop fullShare 7) (gAll m) (k0_off1_eq c)) $$ [Hg]
  · iexact Hg
  iintro Hg
  iapply (wp_load_whole c 4 (k0_pay2 (wOf m c)) off_zero) $$ [Hb]
  · iexact Hb
  iintro Hb
  iapply (wp_load_o c c fo (k0_off3_eq c)) $$ [Ho]
  · iexact Ho
  iintro Ho
  iapply (wp_store_o c c fo (oOf m c) (k0_off3_eq c) (by rw [read_gAll, read_oOf])) $$ [Ho]
  · iexact Ho
  iintro Ho
  rw [wp_ret]
  imodintro
  iapply Hk
  isplitl [HO]; · iexact HO
  isplitl [Hcs]; · iexact Hcs
  isplitr [Hb Hg Ho]
  · isplitl [Hzw]; · iexact Hzw
    isplitl [Hw]; · iexact Hw
    iexact Hwv
  isplitl [Hb]; · iexact Hb
  isplitl [Hg]; · iexact Hg
  iexact Ho

/-- Part 6: the first neighbour's rows. -/
theorem part6_run (c : Dev nD) (v2 v146 : BitVec 32) (fo : (cc0_stg0_0 : Ref sig .tc).ty.Contents (Elt F)) {Q : BitVec 32 → sProp 𝕄} :
    iprop(records m K ∗ levAts L lv ∗ Taking m c kRecv 0 ∗ bPts c cc0_scratch3 (k0_pay2 (wOf m c)) ∗ Filling m c fo 0)
      ⊢ iprop((∀ v169, ((Taking m c kRecv 1 ∗ bPts c cc0_scratch3 (k0_pay2 (wOf m c)) ∗ Filling m c fo 1) -∗ Q v169))
          -∗ wp frame (wpE (defs₀ (F := F)) 𝒱₀ (c : Thread nD τ) none) Set.univ
              (k0_part6 xH h0 wH h1 oV h2 xV h3 wV h4 gV h5 bV h6 cc0_scratch4 cc0_scratch5 cc0_scratch6 c v2 v146) Q) := by
  rw [k0_part6_eq_skeleton]
  unfold k0_part6_skel
  simp only [semSignalWord, semWaitWord, Prog.lift, Prog.bind_op, Prog.bind_ret, Prog.pure_eq_ret, wp_deviceId]
  iintro ⟨#HR, #Hlev, HT, Hb, HF⟩ Hk
  iapply (recv_next m K c 0 (k0_pay2 (wOf m c)) (by rfl) (by rfl) (k0_off5_eq c 0) off_zero) $$ [HT Hb]
  · isplitr; · iexact HR
    isplitr; · iexact Hlev
    isplitl [HT]; · iexact HT
    iexact Hb
  iintro ⟨HT, Hb⟩
  iapply (fill_next m c 0 fo (k0_off6_eq c 0) rfl) $$ [HF]
  · iexact HF
  iintro HF
  rw [wp_ret]
  imodintro
  iapply Hk
  isplitl [HT]; · iexact HT
  isplitl [Hb]; · iexact Hb
  iexact HF

/-- Part 7: the second's, and the product for the third's. -/
theorem part7_run (c : Dev nD) (v2 v169 : BitVec 32) (fo : (cc0_stg0_0 : Ref sig .tc).ty.Contents (Elt F)) {Q : (Σ' (v205 : FVec F S128x128 .f32), BitVec 32) → sProp 𝕄} :
    iprop(records m K ∗ levAts L lv ∗ Taking m c kRecv 1 ∗ bPts c cc0_scratch3 (k0_pay2 (wOf m c)) ∗ Filling m c fo 1)
      ⊢ iprop((∀ v206, ((Taking m c kRecv 3 ∗ bPts c cc0_scratch3 (k0_pay2 (wOf m c)) ∗ Filling m c fo 2) -∗ Q ⟨k0_pay6 (k0_pay1 (xOf m (bwd c 2))) (k0_pay2 (wOf m c)), v206⟩))
          -∗ wp frame (wpE (defs₀ (F := F)) 𝒱₀ (c : Thread nD τ) none) Set.univ
              (k0_part7 xH h0 wH h1 oV h2 xV h3 wV h4 gV h5 bV h6 cc0_scratch4 cc0_scratch5 cc0_scratch6 c v2 v169) Q) := by
  rw [k0_part7_eq_skeleton]
  unfold k0_part7_skel
  simp only [semSignalWord, semWaitWord, Prog.lift, Prog.bind_op, Prog.bind_ret, Prog.pure_eq_ret, wp_deviceId]
  iintro ⟨#HR, #Hlev, HT, Hb, HF⟩ Hk
  iapply (recv_next m K c 1 (k0_pay2 (wOf m c)) (by rfl) (by rfl) (k0_off5_eq c 1) off_zero) $$ [HT Hb]
  · isplitr; · iexact HR
    isplitr; · iexact Hlev
    isplitl [HT]; · iexact HT
    iexact Hb
  iintro ⟨HT, Hb⟩
  iapply (fill_next m c 1 fo (k0_off6_eq c 1) rfl) $$ [HF]
  · iexact HF
  iintro HF
  iapply (recv_next m K c 2 (k0_pay2 (wOf m c)) (by rfl) (by rfl) (k0_off5_eq c 2) off_zero) $$ [HT Hb]
  · isplitr; · iexact HR
    isplitr; · iexact Hlev
    isplitl [HT]; · iexact HT
    iexact Hb
  iintro ⟨HT, Hb⟩
  rw [wp_ret]
  imodintro
  iapply Hk
  isplitl [HT]; · iexact HT
  isplitl [Hb]; · iexact Hb
  iexact HF

/-- Part 8: the third's stored, and the fourth's. -/
theorem part8_run (c : Dev nD) (v2 v206 : BitVec 32) (fo : (cc0_stg0_0 : Ref sig .tc).ty.Contents (Elt F)) {Q : (Σ' (v232 : BitVec 32), BitVec 32) → sProp 𝕄} :
    iprop(records m K ∗ levAts L lv ∗ Taking m c kRecv 3 ∗ bPts c cc0_scratch3 (k0_pay2 (wOf m c)) ∗ Filling m c fo 2)
      ⊢ iprop((∀ v232 v235, ((Taking m c kRecv 4 ∗ bPts c cc0_scratch3 (k0_pay2 (wOf m c)) ∗ Filling m c fo 4) -∗ Q ⟨v232, v235⟩))
          -∗ wp frame (wpE (defs₀ (F := F)) 𝒱₀ (c : Thread nD τ) none) Set.univ
              (k0_part8 xH h0 wH h1 oV h2 xV h3 wV h4 gV h5 bV h6 cc0_scratch4 cc0_scratch5 cc0_scratch6 c v2 (k0_pay6 (k0_pay1 (xOf m (bwd c 2))) (k0_pay2 (wOf m c))) v206) Q) := by
  rw [k0_part8_eq_skeleton]
  unfold k0_part8_skel
  simp only [semSignalWord, semWaitWord, Prog.lift, Prog.bind_op, Prog.bind_ret, Prog.pure_eq_ret, wp_deviceId]
  iintro ⟨#HR, #Hlev, HT, Hb, HF⟩ Hk
  iapply (fill_next m c 2 fo (k0_off6_eq c 2) rfl) $$ [HF]
  · iexact HF
  iintro HF
  iapply (recv_next m K c 3 (k0_pay2 (wOf m c)) (by rfl) (by rfl) (k0_off5_eq c 3) off_zero) $$ [HT Hb]
  · isplitr; · iexact HR
    isplitr; · iexact Hlev
    isplitl [HT]; · iexact HT
    iexact Hb
  iintro ⟨HT, Hb⟩
  iapply (fill_next m c 3 fo (k0_off6_eq c 3) rfl) $$ [HF]
  · iexact HF
  iintro HF
  rw [wp_ret]
  imodintro
  iapply Hk
  isplitl [HT]; · iexact HT
  isplitl [Hb]; · iexact Hb
  iexact HF

/-- Part 9: the fifth's, and the operands for the sixth's. -/
theorem part9_run (c : Dev nD) (v2 v232 v235 : BitVec 32) (fo : (cc0_stg0_0 : Ref sig .tc).ty.Contents (Elt F)) {Q : (Σ' (v253 : BitVec 32) (v264 : Vec F S128x1024 .bf16) (v265 : Vec F S1024x128 .bf16), FVec F S128x128 .f32) → sProp 𝕄} :
    iprop(records m K ∗ levAts L lv ∗ Taking m c kRecv 4 ∗ bPts c cc0_scratch3 (k0_pay2 (wOf m c)) ∗ Filling m c fo 4)
      ⊢ iprop((∀ v253, ((Taking m c kRecv 6 ∗ bPts c cc0_scratch3 (k0_pay2 (wOf m c)) ∗ Filling m c fo 5) -∗ Q ⟨v253, k0_pay1 (xOf m (bwd c 5)), k0_pay2 (wOf m c), constant S128x128 .f32 0x00000000#32⟩))
          -∗ wp frame (wpE (defs₀ (F := F)) 𝒱₀ (c : Thread nD τ) none) Set.univ
              (k0_part9 xH h0 wH h1 oV h2 xV h3 wV h4 gV h5 bV h6 cc0_scratch4 cc0_scratch5 cc0_scratch6 c v2 v232 v235) Q) := by
  rw [k0_part9_eq_skeleton]
  unfold k0_part9_skel
  simp only [semSignalWord, semWaitWord, Prog.lift, Prog.bind_op, Prog.bind_ret, Prog.pure_eq_ret, wp_deviceId]
  iintro ⟨#HR, #Hlev, HT, Hb, HF⟩ Hk
  iapply (recv_next m K c 4 (k0_pay2 (wOf m c)) (by rfl) (by rfl) (k0_off5_eq c 4) off_zero) $$ [HT Hb]
  · isplitr; · iexact HR
    isplitr; · iexact Hlev
    isplitl [HT]; · iexact HT
    iexact Hb
  iintro ⟨HT, Hb⟩
  iapply (fill_next m c 4 fo (k0_off6_eq c 4) rfl) $$ [HF]
  · iexact HF
  iintro HF
  iapply (recv_next m K c 5 (k0_pay2 (wOf m c)) (by rfl) (by rfl) (k0_off5_eq c 5) off_zero) $$ [HT Hb]
  · isplitr; · iexact HR
    isplitr; · iexact Hlev
    isplitl [HT]; · iexact HT
    iexact Hb
  iintro ⟨HT, Hb⟩
  rw [wp_ret]
  imodintro
  iapply Hk
  isplitl [HT]; · iexact HT
  isplitl [Hb]; · iexact Hb
  iexact HF

/-- Part 10: the sixth's stored, and the seventh's. -/
theorem part10_run (c : Dev nD) (v2 v253 : BitVec 32) (fo : (cc0_stg0_0 : Ref sig .tc).ty.Contents (Elt F)) {Q : PUnit → sProp 𝕄} :
    iprop(records m K ∗ levAts L lv ∗ Taking m c kRecv 6 ∗ bPts c cc0_scratch3 (k0_pay2 (wOf m c)) ∗ Filling m c fo 5)
      ⊢ iprop(((Taking m c kRecv 7 ∗ bPts c cc0_scratch3 (k0_pay2 (wOf m c)) ∗ Filling m c fo 7) -∗ Q ⟨⟩)
          -∗ wp frame (wpE (defs₀ (F := F)) 𝒱₀ (c : Thread nD τ) none) Set.univ
              (k0_part10 xH h0 wH h1 oV h2 xV h3 wV h4 gV h5 bV h6 cc0_scratch4 cc0_scratch5 cc0_scratch6 c v2 v253 (k0_pay1 (xOf m (bwd c 5))) (k0_pay2 (wOf m c)) (constant S128x128 .f32 0x00000000#32)) Q) := by
  rw [k0_part10_eq_skeleton]
  unfold k0_part10_skel
  simp only [semSignalWord, semWaitWord, Prog.lift, Prog.bind_op, Prog.bind_ret, Prog.pure_eq_ret, wp_deviceId]
  iintro ⟨#HR, #Hlev, HT, Hb, HF⟩ Hk
  iapply (fill_next m c 5 fo (k0_off6_eq c 5) rfl) $$ [HF]
  · iexact HF
  iintro HF
  iapply (recv_next m K c 6 (k0_pay2 (wOf m c)) (by rfl) (by rfl) (k0_off5_eq c 6) off_zero) $$ [HT Hb]
  · isplitr; · iexact HR
    isplitr; · iexact Hlev
    isplitl [HT]; · iexact HT
    iexact Hb
  iintro ⟨HT, Hb⟩
  iapply (fill_next m c 6 fo (k0_off6_eq c 6) rfl) $$ [HF]
  · iexact HF
  iintro HF
  rw [wp_ret]
  imodintro
  iapply Hk
  isplitl [HT]; · iexact HT
  isplitl [Hb]; · iexact Hb
  iexact HF

/-- Part 11: six of the own copies waited for. -/
theorem part11_run (c : Dev nD) {Q : PUnit → sProp 𝕄} :
    iprop(records m K ∗ levAts L lv ∗ Taking m c kSend 0)
      ⊢ iprop(((Taking m c kSend 6) -∗ Q ⟨⟩)
          -∗ wp frame (wpE (defs₀ (F := F)) 𝒱₀ (c : Thread nD τ) none) Set.univ
              (k0_part11 xH h0 wH h1 oV h2 xV h3 wV h4 gV h5 bV h6 cc0_scratch4 cc0_scratch5 cc0_scratch6 c) Q) := by
  rw [k0_part11_eq_skeleton]
  unfold k0_part11_skel
  simp only [semSignalWord, semWaitWord, Prog.lift, Prog.bind_op, Prog.bind_ret, Prog.pure_eq_ret, wp_deviceId]
  iintro ⟨#HR, #Hlev, HT⟩ Hk
  iapply (take_next m K c kSend 0 (by rfl) (by rfl)) $$ [HT]
  · isplitr; · iexact HR
    isplitr; · iexact Hlev
    iexact HT
  iintro HT
  iapply (take_next m K c kSend 1 (by rfl) (by rfl)) $$ [HT]
  · isplitr; · iexact HR
    isplitr; · iexact Hlev
    iexact HT
  iintro HT
  iapply (take_next m K c kSend 2 (by rfl) (by rfl)) $$ [HT]
  · isplitr; · iexact HR
    isplitr; · iexact Hlev
    iexact HT
  iintro HT
  iapply (take_next m K c kSend 3 (by rfl) (by rfl)) $$ [HT]
  · isplitr; · iexact HR
    isplitr; · iexact Hlev
    iexact HT
  iintro HT
  iapply (take_next m K c kSend 4 (by rfl) (by rfl)) $$ [HT]
  · isplitr; · iexact HR
    isplitr; · iexact Hlev
    iexact HT
  iintro HT
  iapply (take_next m K c kSend 5 (by rfl) (by rfl)) $$ [HT]
  · isplitr; · iexact HR
    isplitr; · iexact Hlev
    iexact HT
  iintro HT
  rw [wp_ret]
  imodintro
  iapply Hk
  iexact HT

end Cert.Gather
-- ==== Proof.Whole.lean ====
/-
# The whole body on one device

What a device starts the body with, what it ends it with, and that the parts lead from one to the other.
-/
module

public import proofs.«01_k».proof.Proof.Body

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MT nD τ sig Unit (Elt F) ℕ UU ℕ

variable (m : (ℓ : Loc nD τ sig) → Buf (Elt F) ℓ)
variable (K : Dev nD × Cl → ℕ)

variable (h0 : xH.IsWhole) (h1 : wH.IsWhole) (h2 : oV.IsWhole) (h3 : xV.IsWhole) (h4 : wV.IsWhole) (h5 : gV.IsWhole) (h6 : bV.IsWhole)

/-! ## Opening and closing the phases -/

omit [FloatOps F] in
/-- The cells of a device by kind. -/
theorem cl_split (Φ : Cl → sProp 𝕄) :
    bigSep Finset.univ Φ = iprop((Φ kBar ∗ Φ kX ∗ Φ kW) ∗ (bigSep Finset.univ fun j => Φ (kSend j)) ∗ bigSep Finset.univ fun j => Φ (kRecv j)) := by
  rw [bigSep_univ_sum, bigSep_univ_sum, bigSep_univ_eq_bigSepL [(0 : Fin 3), 1, 2] (by decide) (by decide)]
  rfl

/-- The gather buffer, whatever it holds: the device's own rows and those of the devices after it. -/
theorem g_open (c : Dev nD) (f : (cc0_scratch2 : Ref sig .tc).ty.Contents (Elt F)) :
    bPts c cc0_scratch2 f ⊢ iprop((∃ f, gPts c c fullShare f) ∗ bigSep Finset.univ fun j => iprop(∃ f, gPts (F := F) c (fwd c j) fullShare f)) := by
  rw [g_split, bigSep_bwd c, bigSep_flip c fun p => gPts (F := F) c p fullShare f]
  have h (p : Dev nD) : gPts (F := F) c p fullShare f ⊢ iprop(∃ f, gPts (F := F) c p fullShare f) := by
    iintro H; iexists f; iexact H
  exact BI.sep_mono (h c) (bigSep_mono fun j _ => h _)

/-- All rows gathered make the gather buffer. -/
theorem g_close (c : Dev nD) :
    iprop(gPts c c fullShare (gAll m) ∗ bigSep Finset.univ fun j => gPts c (bwd c j) fullShare (gAll m)) ⊢ bPts c cc0_scratch2 (gAll m) := by
  rw [g_split, bigSep_bwd c]

/-- Shares of the device's own rows for its seven copies, and one to keep. -/
theorem g_share (c : Dev nD) :
    gPts c c fullShare (gAll m)
      = iprop(gPts c c (shareDrop fullShare 7) (gAll m) ∗ bigSep Finset.univ fun j : Fin 7 => gPts c c (shareTok fullShare 7 j) (gAll m)) := by
  unfold gPts
  exact BI.equiv_iff.mp ⟨(pointsTo_toks fullShare 7).1, (pointsTo_toks fullShare 7).2⟩

theorem ready_open (c : Dev nD) :
    iprop(owe c (O₀ c) ∗ (bigSep Finset.univ fun j : Fin 7 => dutyTok ER (cell (fwd c j) kBar) 0 j)
        ∗ bigSep Finset.univ fun j => iprop(∃ f, gPts (F := F) c (fwd c j) fullShare f)) ⊢ Readying c 0 := by
  unfold Readying
  rw [left_zero, bigSep_sep']
  exact Entails.of_eq rfl

theorem ship_open (c : Dev nD) :
    iprop(owe c (owedFrom (dueRecv c) 0) ∗ (bigSep Finset.univ fun j : Fin 7 => gPts c c (shareTok fullShare 7 j) (gAll m)) ∗ gain m c kBar
        ∗ (bigSep Finset.univ fun j : Fin 7 => dutyTok ER (cell c (kSend j)) 0 0)
        ∗ bigSep Finset.univ fun j : Fin 7 => dutyTok ER (cell (fwd c j) (kRecv j)) 0 0) ⊢ Shipping m c 0 := by
  unfold Shipping
  rw [left_zero, past_zero, bigSep_sep', bigSep_sep', bigSep_sep', drop_emp, ← bigSep_flip c fun p => iprop(∃ f, gPts (F := F) p c fullShare f)]
  exact Entails.of_eq rfl

theorem take_open (c : Dev nD) (kf : Fin 7 → Cl) (hk : ∀ j, tot (kf j) = N) :
    iprop(owe c 0 ∗ (bigSep Finset.univ fun j : Fin 7 => cred (tallyAt (cell c (kf j)) () N))
        ∗ bigSep Finset.univ fun j : Fin 7 => atPos ER (cell c (kf j)) 0 ∅ 0) ⊢ Taking m c kf 0 := by
  unfold Taking
  simp only [hk]
  rw [left_zero, past_zero, bigSep_sep', drop_emp]

theorem take_close (c : Dev nD) (kf : Fin 7 → Cl) :
    Taking m c kf 7 ⊢ iprop(owe c 0 ∗ (bigSep Finset.univ fun j : Fin 7 => semVal (cell c (kf j)) 0) ∗ bigSep Finset.univ fun j => gain m c (kf j)) := by
  unfold Taking
  rw [left_end, past_end, bigSep_sep', drop_emp']

theorem fill_open (c : Dev nD) (fo : (cc0_stg0_0 : Ref sig .tc).ty.Contents (Elt F)) :
    bPts c cc0_stg0_0 fo ⊢ iprop(oPts c c fo ∗ Filling m c fo 0) := by
  unfold Filling
  rw [o_split, bigSep_bwd c, left_zero, past_zero, drop_emp]

theorem fill_close (c : Dev nD) (fo : (cc0_stg0_0 : Ref sig .tc).ty.Contents (Elt F)) :
    iprop(oPts c c (oOf m c) ∗ Filling m c fo 7) ⊢ bPts c cc0_stg0_0 (oOf m c) := by
  unfold Filling
  rw [o_split, bigSep_bwd c, left_end, past_end, drop_emp']

/-! ## The body -/

/-- The rights to signal and to copy that a device starts with, one for each of its own operations. -/
def payToks (c : Dev nD) : sProp 𝕄 :=
  iprop((bigSep Finset.univ fun j : Fin 7 => dutyTok ER (cell (fwd c j) kBar) 0 j)
    ∗ (dutyTok ER (cell c kX) 0 0 ∗ dutyTok ER (cell c kW) 0 0)
    ∗ (bigSep Finset.univ fun j : Fin 7 => dutyTok ER (cell c (kSend j)) 0 0)
    ∗ bigSep Finset.univ fun j : Fin 7 => dutyTok ER (cell (fwd c j) (kRecv j)) 0 0)

/-- The credit it starts with: what the others owe its barrier and its receive cells. -/
def launchCreds (c : Dev nD) : sProp 𝕄 :=
  iprop(cred (tallyAt (cell c kBar) () 7) ∗ bigSep Finset.univ fun j : Fin 7 => cred (tallyAt (cell c (kRecv j)) () N))

/-- Its two arguments. -/
def argPts (c : Dev nD) : sProp 𝕄 := iprop(bPts c main_arg0 (xOf m c) ∗ bPts c main_arg1 (wOf m c))

/-- The four buffers of the core, whatever they hold. -/
def scratch (c : Dev nD) : sProp 𝕄 :=
  iprop((∃ f, bPts (F := F) c cc0_scratch0 f) ∗ (∃ f, bPts (F := F) c cc0_scratch1 f) ∗ (∃ f, bPts (F := F) c cc0_scratch2 f) ∗ ∃ f, bPts (F := F) c cc0_scratch3 f)

/-- Before the body, -/
def bodyIn (c : Dev nD) : sProp 𝕄 :=
  iprop((bigSep Finset.univ fun k : Cl => atPos ER (cell c k) 0 ∅ 0) ∗ payToks c ∗ launchCreds c ∗ argPts m c ∗ scratch c
    ∗ owe c (O₀ c) ∗ ∃ fo, bPts c cc0_stg0_0 fo)
/-- and after it. -/
def bodyOut (c : Dev nD) : sProp 𝕄 :=
  iprop((bigSep Finset.univ fun k : Cl => semVal (cell c k) 0) ∗ argPts m c ∗ scratch c ∗ owe c 0 ∗ bPts c cc0_stg0_0 (oOf m c))

/-- The body, from its start to its end. -/
theorem body_run (c : Dev nD) {Q : PUnit → sProp 𝕄} :
    iprop(records m K ∗ levAts L lv ∗ bodyIn m c)
      ⊢ iprop((bodyOut m c -∗ Q ⟨⟩)
          -∗ wp frame (wpE (defs₀ (F := F)) 𝒱₀ (c : Thread nD τ) none) Set.univ
              (cc0_body xH h0 wH h1 oV h2 xV h3 wV h4 gV h5 bV h6 cc0_scratch4 cc0_scratch5 cc0_scratch6) Q) := by
  rw [cc0_body_eq_skeleton]
  unfold cc0_body_skel
  simp only [wp_bind]
  unfold bodyIn payToks launchCreds argPts scratch
  rw [cl_split]
  iintro ⟨#HR, #Hlev, ⟨⟨Hab, Hax, Haw⟩, Has, Har⟩, ⟨Htb, ⟨Htx, Htw⟩, Hts, Htr⟩, ⟨Hcb, Hcr⟩, ⟨Hx, Hw⟩, ⟨Hxv, Hwv, ⟨%fg, Hg⟩, Hb⟩, HO, ⟨%fo, Ho⟩⟩ Hk
  ihave Hg := (g_open c fg) $$ Hg
  icases Hg with ⟨Hown, Hg⟩
  ihave HB := (ready_open (F := F) c) $$ [HO Htb Hg]
  · isplitl [HO]; · iexact HO
    isplitl [Htb]; · iexact Htb
    iexact Hg
  iapply (part1_run m K h0 h1 h2 h3 h4 h5 h6 c) $$ [Hx Hxv Htx Hw Hwv Htw HB]
  · isplitr; · iexact HR
    isplitl [Hx Hxv Htx]
    · isplitl [Hx]; · iexact Hx
      isplitl [Hxv]; · iexact Hxv
      iexact Htx
    isplitl [Hw Hwv Htw]
    · isplitl [Hw]; · iexact Hw
      isplitl [Hwv]; · iexact Hwv
      iexact Htw
    iexact HB
  iintro %v2 %v25 ⟨Hcx, Hcw, HB⟩
  iapply (part2_run m K h0 h1 h2 h3 h4 h5 h6 c v2 v25) $$ [HB Hcb Hab Hcx Hax Hown]
  · isplitr; · iexact HR
    isplitr; · iexact Hlev
    isplitl [HB]; · iexact HB
    isplitl [Hcb Hab]
    · isplitl [Hcb]; · iexact Hcb
      iexact Hab
    isplitl [Hcx Hax]
    · isplitl [Hcx]; · iexact Hcx
      iexact Hax
    iexact Hown
  iintro ⟨HO, ⟨Hzb, Hgb⟩, ⟨Hzx, Hx⟩, Hown⟩
  ihave Hown := (Entails.of_eq (g_share m c)) $$ Hown
  icases Hown with ⟨Hown, Hsh⟩
  ihave HS := (ship_open m c) $$ [HO Hsh Hgb Hts Htr]
  · isplitl [HO]; · iexact HO
    isplitl [Hsh]; · iexact Hsh
    isplitl [Hgb]; · iexact Hgb
    isplitl [Hts]; · iexact Hts
    iexact Htr
  iapply (part3_run m K h0 h1 h2 h3 h4 h5 h6 c v2) $$ [HS]
  · isplitr; · iexact HR
    iexact HS
  iintro %v82 %v HS
  iapply (part4_run m K h0 h1 h2 h3 h4 h5 h6 c v2 v82 v) $$ [HS]
  · isplitr; · iexact HR
    iexact HS
  iintro HS
  ihave Ho := (fill_open m c fo) $$ Ho
  icases Ho with ⟨Ho, HF⟩
  iapply (part5_run m K h0 h1 h2 h3 h4 h5 h6 c v2 fo) $$ [HS Hcw Haw Hb Hown Ho]
  · isplitr; · iexact HR
    isplitr; · iexact Hlev
    isplitl [HS]; · iexact HS
    isplitl [Hcw Haw]
    · isplitl [Hcw]; · iexact Hcw
      iexact Haw
    isplitl [Hb]; · iexact Hb
    isplitl [Hown]; · iexact Hown
    iexact Ho
  iintro %v146 ⟨HO, Hcs, ⟨Hzw, Hw⟩, Hb, Hown, Ho⟩
  ihave HT := (take_open m c kRecv (fun _ => rfl)) $$ [HO Hcr Har]
  · isplitl [HO]; · iexact HO
    isplitl [Hcr]; · iexact Hcr
    iexact Har
  iapply (part6_run m K h0 h1 h2 h3 h4 h5 h6 c v2 v146 fo) $$ [HT Hb HF]
  · isplitr; · iexact HR
    isplitr; · iexact Hlev
    isplitl [HT]; · iexact HT
    isplitl [Hb]; · iexact Hb
    iexact HF
  iintro %v169 ⟨HT, Hb, HF⟩
  iapply (part7_run m K h0 h1 h2 h3 h4 h5 h6 c v2 v169 fo) $$ [HT Hb HF]
  · isplitr; · iexact HR
    isplitr; · iexact Hlev
    isplitl [HT]; · iexact HT
    isplitl [Hb]; · iexact Hb
    iexact HF
  iintro %v206 ⟨HT, Hb, HF⟩
  iapply (part8_run m K h0 h1 h2 h3 h4 h5 h6 c v2 v206 fo) $$ [HT Hb HF]
  · isplitr; · iexact HR
    isplitr; · iexact Hlev
    isplitl [HT]; · iexact HT
    isplitl [Hb]; · iexact Hb
    iexact HF
  iintro %v232 %v235 ⟨HT, Hb, HF⟩
  iapply (part9_run m K h0 h1 h2 h3 h4 h5 h6 c v2 v232 v235 fo) $$ [HT Hb HF]
  · isplitr; · iexact HR
    isplitr; · iexact Hlev
    isplitl [HT]; · iexact HT
    isplitl [Hb]; · iexact Hb
    iexact HF
  iintro %v253 ⟨HT, Hb, HF⟩
  iapply (part10_run m K h0 h1 h2 h3 h4 h5 h6 c v2 v253 fo) $$ [HT Hb HF]
  · isplitr; · iexact HR
    isplitr; · iexact Hlev
    isplitl [HT]; · iexact HT
    isplitl [Hb]; · iexact Hb
    iexact HF
  iintro ⟨HT, Hb, HF⟩
  ihave HT := (take_close m c kRecv) $$ HT
  icases HT with ⟨HO, Hzr, Hgr⟩
  ihave HT := (take_open m c kSend (fun _ => rfl)) $$ [HO Hcs Has]
  · isplitl [HO]; · iexact HO
    isplitl [Hcs]; · iexact Hcs
    iexact Has
  iapply (part11_run m K h0 h1 h2 h3 h4 h5 h6 c) $$ [HT]
  · isplitr; · iexact HR
    isplitr; · iexact Hlev
    iexact HT
  iintro HT
  simp only [Prog.lift, Prog.bind_op, Prog.bind_ret, Prog.pure_eq_ret]
  iapply (take_next m K c kSend 6 (by rfl) (by rfl)) $$ [HT]
  · isplitr; · iexact HR
    isplitr; · iexact Hlev
    iexact HT
  iintro HT
  ihave HT := (take_close m c kSend) $$ [HT]
  · iexact HT
  icases HT with ⟨HO, Hzs, Hgs⟩
  rw [wp_ret]
  imodintro
  rw [wp_ret]
  imodintro
  iapply Hk
  unfold bodyOut argPts scratch
  rw [cl_split]
  simp only [gain_recv, gain_send, gain_x, gain_w]
  icases Hx with ⟨Hx, Hxv⟩
  icases Hw with ⟨Hw, Hwv⟩
  isplitl [Hzb Hzx Hzw Hzs Hzr]
  · isplitl [Hzb Hzx Hzw]
    · isplitl [Hzb]; · iexact Hzb
      isplitl [Hzx]; · iexact Hzx
      iexact Hzw
    isplitl [Hzs]; · iexact Hzs
    iexact Hzr
  isplitl [Hx Hw]
  · isplitl [Hx]; · iexact Hx
    iexact Hw
  isplitl [Hxv Hwv Hb Hown Hgs Hgr]
  · isplitl [Hxv]; · iexists _; iexact Hxv
    isplitl [Hwv]; · iexists _; iexact Hwv
    isplitr [Hb]
    · iexists _
      iapply (g_close m c)
      isplitr [Hgr]
      · iapply (Entails.of_eq (g_share m c).symm)
        isplitl [Hown]; · iexact Hown
        iexact Hgs
      iexact Hgr
    iexists _; iexact Hb
  isplitl [HO]; · iexact HO
  iapply (fill_close m c fo)
  isplitl [Ho]; · iexact Ho
  iexact HF

end Cert.Gather
-- ==== Proof.Deal.lean ====
/-
# What the launch deals out

At launch the rounds library mints, for every cell of every device, its state, its position and the tokens of its duties.
A device's copies and sends are its own duties, but its barrier's and its receive cells' are other devices': those tokens
are handed on, each to the device that pays it. The launch credit is dealt the same way: seven units to a barrier cell, a
block's credit to each receive cell.
-/
module

public import proofs.«01_k».proof.Proof.Whole
public import proofs.«01_k».proof.Proof.Gen.KernelIdeal.Launch

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks)

variable {F : FTy → Type} [FloatOps F]

local notation "𝕄" => MT nD τ sig Unit (Elt F) ℕ UU ℕ

variable (m : (ℓ : Loc nD τ sig) → Buf (Elt F) ℓ)
variable (K : Dev nD × Cl → ℕ)

/-! ## Handing on, in general -/

omit [FloatOps F] in
/-- Something for every device and distance is the same thing, each taken at the device that many places further. -/
theorem deal_on (Φ : Dev nD → Fin 7 → sProp 𝕄) :
    (bigSep Finset.univ fun c => bigSep Finset.univ fun j => Φ c j) = bigSep Finset.univ fun c => bigSep Finset.univ fun j => Φ (fwd c j) j := by
  let e : Dev nD × Fin 7 ≃ Dev nD × Fin 7 :=
    ⟨fun x => (fwd x.1 x.2, x.2), fun x => (bwd x.1 x.2, x.2), fun x => Prod.ext (bwd_fwd x.1 x.2) rfl,
      fun x => Prod.ext (fwd_bwd x.1 x.2) rfl⟩
  calc (bigSep Finset.univ fun c => bigSep Finset.univ fun j => Φ c j)
      = bigSep Finset.univ fun x : Dev nD × Fin 7 => Φ x.1 x.2 := (bigSep_univ_prod fun x : Dev nD × Fin 7 => Φ x.1 x.2).symm
    _ = bigSep Finset.univ fun x : Dev nD × Fin 7 => Φ (fwd x.1 x.2) x.2 := bigSep_univ_equiv e _
    _ = _ := bigSep_univ_prod fun x : Dev nD × Fin 7 => Φ (fwd x.1 x.2) x.2

/-! ## The own cells: all but the barrier's -/

/-- A device's cells that are the kernel's own: the two copies', the sends', the receives'. -/
abbrev Own : Type := Fin 2 ⊕ (Fin 7 ⊕ Fin 7)

/-- As cells, -/
def ownCl : Own → Cl
  | .inl 0 => kX
  | .inl 1 => kW
  | .inr k => .inr k
/-- and as semaphores. -/
abbrev osem (k : Own) : SemLoc sig := csem (ownCl k)

theorem ownCl_inj : Function.Injective ownCl := by decide
theorem ownCl_bar (k : Own) : ownCl k ≠ kBar := by revert k; decide

omit [FloatOps F] in
theorem own_split (Φ : Own → sProp 𝕄) :
    bigSep Finset.univ Φ
      = iprop((Φ (.inl 0) ∗ Φ (.inl 1)) ∗ (bigSep Finset.univ fun j => Φ (.inr (.inl j))) ∗ bigSep Finset.univ fun j => Φ (.inr (.inr j))) := by
  rw [bigSep_univ_sum, bigSep_univ_sum, bigSep_univ_eq_bigSepL [(0 : Fin 2), 1] (by decide) (by decide)]
  rfl

omit [FloatOps F] in
/-- A device's cells are its barrier and its own. -/
theorem cl_own (Φ : Cl → sProp 𝕄) : bigSep Finset.univ Φ = iprop(Φ kBar ∗ bigSep Finset.univ fun k : Own => Φ (ownCl k)) := by
  have h : (Finset.univ : Finset Cl).erase kBar = (Finset.univ : Finset Own).map ⟨ownCl, ownCl_inj⟩ := by decide
  rw [bigSep_univ_at Φ kBar, h, bigSep_map]
  rfl

/-! ## What is minted -/

abbrev cellAt (ck : Dev nD × Cl) : GSem nD τ sig := cell ck.1 ck.2
theorem cellAt_inj : Function.Injective cellAt := fun _ _ h => Prod.ext (cell_inj h).1 (cell_inj h).2
/-- All cells of all devices, -/
def allCells : Finset (GSem nD τ sig) := Finset.univ.map ⟨cellAt, cellAt_inj⟩

/-- and all duties: a barrier has seven, an own cell one. -/
abbrev dutyAt (x : Dev nD × (Fin 7 ⊕ Own)) : GSem nD τ sig × ℕ × Fin 7 := match x.2 with
  | .inl j => (cell x.1 kBar, 0, j)
  | .inr k => (cell x.1 (ownCl k), 0, 0)
theorem dutyAt_inj : Function.Injective dutyAt := by
  rintro ⟨c, j | k⟩ ⟨c', j' | k'⟩ h
  · obtain ⟨h1, h2⟩ := Prod.ext_iff.mp h
    obtain rfl := (cell_inj h1).1
    obtain rfl : j = j' := congrArg Prod.snd h2
    rfl
  · exact absurd (cell_inj (congrArg Prod.fst h)).2.symm (ownCl_bar k')
  · exact absurd (cell_inj (congrArg Prod.fst h)).2 (ownCl_bar k)
  · obtain ⟨rfl, h2⟩ := cell_inj (congrArg Prod.fst h)
    rw [ownCl_inj h2]
def allDuties : Finset (GSem nD τ sig × ℕ × Fin 7) := Finset.univ.map ⟨dutyAt, dutyAt_inj⟩

/-- The launch's ghost element: the staging pipeline's and the protocol's. -/
def u₀ : UU :=
  (initOf (Pipeline.cells cfgs cellOf_inj) (Pipeline.launchToks cfgs cellOf_inj), initOf allCells allDuties)

/-- The tokens of a device's own duties. -/
def toks (c : Dev nD) : sProp 𝕄 :=
  iprop((bigSep Finset.univ fun j : Fin 7 => dutyTok ER (cell c kBar) 0 j) ∗ bigSep Finset.univ fun k : Own => dutyTok ER (cell c (ownCl k)) 0 0)

/-- The positions of its cells, and that each has reached its round. -/
def marks (c : Dev nD) : sProp 𝕄 :=
  iprop((bigSep Finset.univ fun k : Cl => atPos ER (cell c k) 0 ∅ 0) ∗ bigSep Finset.univ fun k : Cl => reached ER (cell c k) 0)

/-- What is minted for device `c`. -/
def G (c : Dev nD) : sProp 𝕄 :=
  iprop((bigSep Finset.univ fun k : Cl => roundState ER (sched m) (cell c k) 0) ∗ marks c ∗ toks c)

/-- What it has once everything is dealt out: the records, its positions, the tokens it pays with. -/
def G' (c : Dev nD) : sProp 𝕄 :=
  iprop(∃ K, records m K ∗ (bigSep Finset.univ fun k : Cl => atPos ER (cell c k) 0 ∅ 0) ∗ payToks c)

omit [FloatOps F] in
theorem over_cells (Φ : GSem nD τ sig → sProp 𝕄) :
    bigSep allCells Φ = bigSep Finset.univ fun c : Dev nD => bigSep Finset.univ fun k : Cl => Φ (cell c k) := by
  unfold allCells; rw [bigSep_map, bigSep_univ_prod]; rfl
omit [FloatOps F] in
theorem over_duties :
    bigSep allDuties (fun x => (dutyTok ER x.1 x.2.1 x.2.2 : sProp 𝕄)) = bigSep Finset.univ fun c : Dev nD => toks c := by
  unfold allDuties; rw [bigSep_map, bigSep_univ_prod]
  exact bigSep_congr fun c _ => by unfold toks; rw [bigSep_univ_sum]; rfl

theorem mint : BI.own (ER (initOf allCells allDuties)) ⊢ (|==> bigSep Finset.univ (G m) : sProp 𝕄) := by
  iintro HX
  imod (Rounds.fund ER (sched m) allCells allDuties) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_duties) $$ Htok
  unfold G marks; simp only [bigSep_sep']
  isplitl [Hst]; · iexact Hst
  isplitr [Htok]
  · isplitl [Hat] <;> iassumption
  iexact Htok

/-! ## The cells opened, and everything dealt out -/

omit [FloatOps F] in
/-- The barrier is the one semaphore that is not the kernel's own. -/
theorem unscopedSems0_eq (c : Dev nD) : (unscopedSems0 c : sProp 𝕄) = semVal (cell c kBar) 0 := by
  unfold unscopedSems0; rw [bigSep_eq_bigSepL_of_eq [SemLoc.reg barS] (by decide) (by decide)]; rfl

omit [FloatOps F] in
/-- A device's counters. -/
theorem counters (c : Dev nD) :
    iprop(Pipeline.ownSems0 (Ix := Unit) (Name := ℕ) (U := UU) (Lvl := ℕ) (Val := Elt F) (τ := τ) osem c ∗ unscopedSems0 c)
      = (bigSep Finset.univ fun k : Cl => semVal (cell c k) 0 : sProp 𝕄) := by
  rw [cl_own, unscopedSems0_eq]
  exact BI.equiv_iff.mp ⟨BI.sep_comm, BI.sep_comm⟩

theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (sched m) κ (cell c k))) ∗ marks c ∗ toks c) := by
  have h : iprop((bigSep Finset.univ fun k : Cl => semVal (cell c k) 0) ∗ bigSep Finset.univ fun k : Cl => roundState ER (sched m) (cell c k) 0)
      ⊢ (|={Set.univ}=> bigSep Finset.univ fun k : Cl => iprop(∃ κ : ℕ, cellInv ER (sched m) κ (cell c k)) : sProp 𝕄) := by
    rw [← bigSep_sep']
    exact (bigSep_mono fun k _ => (Rounds.body_intro ER (sched m) (cell c k)).trans inv_alloc).trans (bigSep_fupd _ _)
  unfold G
  iintro ⟨Hos, Hus, Hst, Hm, Htok⟩
  ihave Hv := (Entails.of_eq (counters (F := F) c)) $$ [Hos Hus]
  · isplitl [Hos] <;> iassumption
  imod h $$ [Hv Hst] with Hinv
  · isplitl [Hv] <;> iassumption
  imodintro
  isplitl [Hinv]; · iexact Hinv
  isplitl [Hm]; · iexact Hm
  iexact Htok

omit [FloatOps F] in
/-- The tokens, handed on: a barrier's and the receive cells' to the devices before. -/
theorem toks_on : (bigSep Finset.univ fun c : Dev nD => (toks c : sProp 𝕄)) = bigSep Finset.univ fun c : Dev nD => payToks c := by
  unfold toks payToks
  simp only [own_split, bigSep_sep']
  rw [deal_on (F := F) fun c j => dutyTok ER (cell c kBar) 0 j, deal_on (F := F) fun c j => dutyTok ER (cell c (ownCl (.inr (.inr j)))) 0 0]
  rfl

theorem with_records {R : sProp 𝕄} [BI.Persistent R] {Φ : Dev nD → sProp 𝕄} :
    iprop(R ∗ bigSep Finset.univ Φ) ⊢ bigSep Finset.univ fun c => iprop(R ∗ Φ c) := by
  rw [bigSep_sep']
  exact sep_mono_left (BI.bigSep_of_persistent _ R)

theorem deal_out :
    (bigSep Finset.univ fun c : Dev nD => iprop((bigSep Finset.univ fun k : Cl => iprop(∃ κ : ℕ, cellInv ER (sched m) κ (cell c k))) ∗ marks c ∗ toks c) : sProp 𝕄)
      ⊢ bigSep Finset.univ (G' m) := by
  unfold marks
  simp only [bigSep_sep']
  rw [toks_on, ← bigSep_univ_prod (fun ck : Dev nD × Cl => iprop(∃ κ : ℕ, cellInv ER (sched m) κ (cell ck.1 ck.2))),
    ← bigSep_univ_prod (fun ck : Dev nD × Cl => (reached ER (cell ck.1 ck.2) 0 : sProp 𝕄))]
  iintro ⟨HI, ⟨Hat, #HR⟩, Htok⟩
  ihave HK := (BI.bigSep_exists_pi Finset.univ (fun (ck : Dev nD × Cl) (κ : ℕ) => (cellInv ER (sched m) κ (cell ck.1 ck.2) : sProp 𝕄))) $$ HI
  icases HK with ⟨%K, #HI⟩
  have h (c : Dev nD) : iprop(records m K ∗ (bigSep Finset.univ fun k : Cl => atPos ER (cell c k) 0 ∅ 0) ∗ payToks c) ⊢ G' m c := by
    unfold G'; iintro H; iexists K; iexact H
  iapply (with_records.trans (bigSep_mono fun c _ => h c))
  isplitr
  · unfold records; isplitl; · iexact HI
    iexact HR
  · iapply (Entails.of_eq (bigSep_sep' Finset.univ (fun c : Dev nD => bigSep Finset.univ fun k : Cl => atPos ER (cell c k) 0 ∅ 0) payToks).symm)
    isplitl [Hat]; · iexact Hat
    iexact Htok

/-- From the counters and what is minted, on all devices at once, to what every device starts with. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => open_cells m c).trans (bigSep_fupd _ _)).trans (BI.fupd_mono (deal_out m))

/-! ## The launch credit -/

theorem owed_at (t : Fin 7 → CellTallies nD τ sig Unit) (g : GSem nD τ sig) : owedFrom t 0 g () = ∑ j, t j g () := by
  rw [owedFrom_zero, Finset.sum_apply, Finsupp.finset_sum_apply]

theorem owed_cell (d c : Dev nD) (k : Cl) :
    O₀ d (cell c k) () = (∑ j, if fwd d j = c ∧ kRecv j = k then N else 0) + ∑ j, if fwd d j = c ∧ kBar = k then 1 else 0 := by
  have h (j : Fin 7) (k' : Cl) (n : ℕ) : (tallyAt (cell (fwd d j) k') () n : CellTallies nD τ sig Unit) (cell c k) () = if fwd d j = c ∧ k' = k then n else 0 := by
    rw [tallyAt_apply]
    refine if_congr ⟨fun h => ?_, fun h => ?_⟩ rfl rfl
    · exact ⟨(cell_inj h.1).1.symm, (cell_inj h.1).2.symm⟩
    · obtain ⟨rfl, rfl⟩ := h; exact ⟨rfl, rfl⟩
  unfold O₀
  rw [Pi.add_apply, Finsupp.add_apply, owed_at, owed_at]
  exact congrArg₂ (· + ·) (Finset.sum_congr rfl fun j _ => h j _ _) (Finset.sum_congr rfl fun j _ => h j _ _)

theorem credit_cell (c : Dev nD) (k : Cl) (n : ℕ) (h : ∑ d, O₀ d (cell c k) () = n) :
    tallyOn (cell c k) (launchCredit (Pipeline.owing O₀) 0 (cell c k)) = (tallyAt (cell c k) () n : CellTallies nD τ sig Unit) := by
  unfold tallyAt
  refine congrArg _ (Finsupp.ext fun u => ?_)
  cases u
  rw [Pipeline.launchCredit_owing, Finsupp.single_eq_same, h]

/-- A barrier is owed a unit by each other device, -/
theorem owed_bar (c : Dev nD) : ∑ d, O₀ d (cell c kBar) () = 7 := by
  have h0 (d : Dev nD) : O₀ d (cell c kBar) () = ∑ j, if fwd d j = c then 1 else 0 := by
    have h1 (j : Fin 7) : kRecv j ≠ kBar := fun h => by cases h
    rw [owed_cell, Finset.sum_eq_zero fun j _ => if_neg fun h => h1 j h.2, Nat.zero_add]
    simp only [and_true]
  rw [Finset.sum_congr rfl fun d _ => h0 d]
  clear h0
  revert c; decide
/-- a receive cell the credit of one block. -/
theorem owed_recv (c : Dev nD) (j : Fin 7) : ∑ d, O₀ d (cell c (kRecv j)) () = N := by
  have h0 (d : Dev nD) : O₀ d (cell c (kRecv j)) () = (if fwd d j = c then 1 else 0) * N := by
    have h1 : kBar ≠ kRecv j := fun h => by cases h
    have h2 (i : Fin 7) (hi : i ≠ j) : kRecv i ≠ kRecv j := fun h => hi (Sum.inr.inj (Sum.inr.inj h))
    have h3 : (∑ i : Fin 7, if fwd d i = c ∧ kBar = kRecv j then 1 else 0) = 0 := Finset.sum_eq_zero fun i _ => if_neg fun h => h1 h.2
    have h4 : (∑ i : Fin 7, if fwd d i = c ∧ kRecv i = kRecv j then N else 0) = if fwd d j = c ∧ kRecv j = kRecv j then N else 0 :=
      Finset.sum_eq_single j (fun i _ hi => if_neg fun h => h2 i hi h.2) fun h => absurd (Finset.mem_univ j) h
    rw [owed_cell, h3, h4, Nat.add_zero]
    by_cases hc : fwd d j = c
    · rw [if_pos ⟨hc, rfl⟩, if_pos hc, Nat.one_mul]
    · rw [if_neg fun h => hc h.1, if_neg hc, Nat.zero_mul]
  have h5 : (∑ d : Dev nD, if fwd d j = c then 1 else 0) = 1 := by clear h0; revert c j; decide
  rw [Finset.sum_congr rfl fun d _ => h0 d, ← Finset.sum_mul, h5, Nat.one_mul]

theorem recvSem_inj : Function.Injective fun j : Fin 7 => csem (kRecv j) := by decide

omit [FloatOps F] in
theorem creds (c : Dev nD) : (Pipeline.launchCred O₀ c : sProp 𝕄) ⊢ launchCreds c := by
  unfold Pipeline.launchCred launchCreds
  rw [bigSep_univ_at _ (csem kBar), show ((c.tc : Thread nD τ), csem kBar) = cell c kBar from rfl, credit_cell c kBar 7 (owed_bar c)]
  refine sep_mono_right ((bigSep_subset (t := Finset.univ.map ⟨fun j : Fin 7 => csem (kRecv j), recvSem_inj⟩) (by decide)).trans ?_)
  rw [bigSep_map]
  exact bigSep_mono fun j _ => Entails.of_eq (congrArg cred (credit_cell c (kRecv j) N (owed_recv c j)))

end Cert.Gather
-- ==== Proof.Launch.lean ====
/-
# The launch

The body as the pipeline's one grid point, the launch around it, and what the whole program's run ends in: on every device
the result array holds that device's result, the two operands are unchanged, and every semaphore counts zero.
-/
module

public import proofs.«01_k».proof.Proof.Deal
public import Idealize.ShloMosaic.Lib.Pipeline.CollectiveSegs
public import proofs.«01_k».proof.Proof.Gen.KernelIdeal.Points

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Idealize.ShloMosaic.Rounds
open Idealize.ShloMosaic.Transfers (shareTok shareDrop pointsTo_toks)

variable {F : FTy → Type} [FloatOps F]

local notation "𝕄" => MT nD τ sig Unit (Elt F) ℕ UU ℕ

variable (m : (ℓ : Loc nD τ sig) → Buf (Elt F) ℓ)
variable (ρ : Dev nD → PrngReg)

/-- What a device's run starts with besides its buffers and debts: its dealt part, its credit and the levels. -/
def start (c : Dev nD) : sProp 𝕄 := iprop(G' m c ∗ launchCreds c ∗ levAts L lv)

/-- Before the body, -/
def Φ₀ (c : Dev nD) : sProp 𝕄 := iprop((start m c ∗ argPts m c) ∗ scratch (F := F) c)
/-- and after it. -/
def Φ₁ (c : Dev nD) : sProp 𝕄 := iprop((bigSep Finset.univ fun k : Cl => semVal (cell c k) 0) ∗ argPts m c ∗ scratch (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => oOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

/-! ## The body as the grid's one point -/

omit [FloatOps F] in
/-- A whole buffer owned at `X`. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

/-- The staged result, held at `X`. -/
def staged (c : Dev nD) (X : (cc0_stg0_0 : Ref sig .tc).ty.Contents (Elt F)) : sProp 𝕄 :=
  iprop(∃ f : Buf (Elt F) ((c : Thread nD τ).loc cc0_stg0_0), ⌜f = X⌝ ∗ ((c : Thread nD τ).loc cc0_stg0_0) ↦{fullShare} f)

def pointPre (c : Dev nD) : sProp 𝕄 :=
  iprop(Φ₀ m c ∗ (dats m ρ 0 c).owesAt () t0_0.castSucc ∗ ∃ d, staged c ((dats m ρ 0 c).before (0 : Fin 1) t0_0 d))
def pointPost (c : Dev nD) : sProp 𝕄 :=
  iprop(Φ₁ m c ∗ (dats m ρ 0 c).owesAt () t0_0.succ ∗ staged c (oOf m c))

theorem point_run (c : Dev nD) : pointPre m ρ c ⊢ wp frame (wpE (defs₀ (F := F)) 𝒱₀ (c : Thread nD τ) none) Set.univ
    (cc0_body xH (Memref.isWhole_whole _) wH (Memref.isWhole_whole _) oV (Memref.isWhole_whole _) xV (Memref.isWhole_whole _)
      wV (Memref.isWhole_whole _) gV (Memref.isWhole_whole _) bV (Memref.isWhole_whole _) cc0_scratch4 cc0_scratch5 cc0_scratch6)
    (fun _ => pointPost m ρ c) := by
  unfold pointPre Φ₀ start G' staged Dat.owesAt Pipeline.owesWithin
  iintro ⟨⟨⟨⟨⟨%K, HR, Hat, Htok⟩, Hcr, Hlev⟩, Harg⟩, Hscr⟩, ⟨%W, -, HO⟩, ⟨%d, %f, -, Ho⟩⟩
  iapply (body_run m K (Memref.isWhole_whole _) (Memref.isWhole_whole _) (Memref.isWhole_whole _) (Memref.isWhole_whole _)
    (Memref.isWhole_whole _) (Memref.isWhole_whole _) (Memref.isWhole_whole _) c (Q := fun _ => pointPost m ρ c)) $$ [HR Hat Htok Hcr Hlev Harg Hscr HO Ho]
  · isplitl [HR]; · iexact HR
    isplitl [Hlev]; · iexact Hlev
    unfold bodyIn owe bPts
    isplitl [Hat]; · iexact Hat
    isplitl [Htok]; · iexact Htok
    isplitl [Hcr]; · iexact Hcr
    isplitl [Harg]; · iexact Harg
    isplitl [Hscr]; · iexact Hscr
    isplitl [HO]
    · iexists W; iexact HO
    iexists f; iexact Ho
  unfold bodyOut pointPost Φ₁ owe bPts staged Dat.owesAt Pipeline.owesWithin
  iintro ⟨Hz, Harg, Hscr, ⟨%W', HO⟩, Ho⟩
  isplitl [Hz Harg Hscr]
  · isplitl [Hz]; · iexact Hz
    isplitl [Harg] <;> iassumption
  isplitl [HO]
  · iexists W'
    isplitr; · ipureintro; exact fun _ _ => Or.inl trivial
    iexact HO
  iexists _; isplitr; · (ipureintro; rfl)
  iexact Ho

theorem body_obligation (c : Dev nD) : BodyObligation (dats (F := F) m ρ 0 c) (defs₀ (F := F)) 𝒱₀ () Set.univ := fun t => by
  rw [fin_N0 t, bigSep_W0, bigSep_W0]
  simp only [owns_buf]
  exact point_run m ρ c

/-! ## The launch's side conditions -/

theorem ownSemFacts : Pipeline.OwnSemFacts cfg0.spec osem := by decide

omit [FloatOps F] in
theorem scratch_eq (c : Dev nD) :
    (Pipeline.scopedRest (Ix := Unit) (Name := ℕ) (U := UU) (Lvl := ℕ) (Val := Elt F) cfg0.spec c : sProp 𝕄) = scratch (F := F) c :=
  scopedRest0_eq c

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((start m c ∗ argPts m c) ∗ emp) := by
  rw [Pipeline.unscopedRestP_none, unscopedRest0_eq]
  iintro ⟨Harg, Hlev, Hcr, -, HG⟩
  ihave Hcr := (creds (F := F) c) $$ Hcr
  imodintro
  unfold start argPts bPts xOf wOf
  isplitl
  · isplitr [Harg]
    · isplitl [HG]; · iexact HG
      isplitl [Hcr] <;> iassumption
    iexact Harg
  · iempintro

theorem body_in (c : Dev nD) :
    iprop((start m c ∗ argPts m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hscr⟩
  isplitl [Hs] <;> iassumption

theorem body_out (c : Dev nD) :
    (dats m ρ 0 c).Φ (Fin.last cfg0.N)
      ⊢ iprop((unscopedSems0 c ∗ argPts m c) ∗ Pipeline.ownSems0 osem c ∗ Pipeline.scopedRest cfg0.spec c) := by
  rw [show (dats m ρ 0 c).Φ (Fin.last cfg0.N) = Φ₁ m c from rfl, scratch_eq]
  unfold Φ₁
  rw [← counters]
  iintro ⟨⟨Hos, Hus⟩, Harg, Hscr⟩
  isplitl [Hus Harg]
  · isplitl [Hus] <;> iassumption
  isplitl [Hos] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w; fin_cases s; rfl) 0 0
    · exact mayWait_free c _

/-- What is read off the final memory: the operands as they were, the unscoped counters at zero. -/
def Kept (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

theorem read_kept (c : Dev nD) (s' : Phys nD τ sig (Elt F)) :
    iprop((unscopedSems0 c ∗ argPts m c) ∗ emp ∗ SI s') ⊢ (|={Set.univ}=> iprop(⌜Kept m c s'.mem⌝ ∗ SI s') : sProp 𝕄) := by
  unfold argPts bPts
  iintro ⟨⟨Hu, Hx, Hw⟩, -, HSI⟩
  icombine HSI Hx gives %hx
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro; exact ⟨⟨funext fun i => hx i (Finset.mem_univ i), funext fun i => hw i (Finset.mem_univ i)⟩, hs⟩
  iexact HSI

/-! ## The result array -/

theorem read_out (c : Dev nD) (f : Buf (Elt F) ((c : Thread nD τ).loc main_v1)) : (win0_0.blk t0_0).view.read (Elt F) f = f :=
  Memref.read_access_unit_zero (Elt F) main_v1
    (show (fun a => (win0_0.index t0_0) a * main_v1.ty.shape.size a) = fun _ => 0 from
      funext fun a => by fin_cases a <;> decide) (fun a => by fin_cases a <;> decide) f

/-- The one block is the whole array: it ends as the body leaves the staged result. -/
theorem final_out (c : Dev nD) : (dats m ρ 0 c).arrAt (0 : Fin 1) cfg0.N = oOf m c := by
  have hf : (dats m ρ 0 c).flushed (0 : Fin 1) t0_0 = oOf m c := funext fun _ => rfl
  have hr : ((cfg0.win (0 : Fin 1)).blk t0_0).view.read (Elt F) ((dats m ρ 0 c).arrAt (0 : Fin 1) (t0_0.val + 1)) = oOf m c := by
    rw [(dats m ρ 0 c).arrAt_succ (0 : Fin 1) t0_0, if_pos (flush0_0 _), ← hf]
    exact View.read_write_univ _ _
  exact (read_out c _).symm.trans hr

/-! ## The run -/

/-- What the program ends in. -/
def Ends (r : PUnit × MemSt nD τ sig (Elt F)) : Prop :=
  (∀ c : Dev nD, r.2.mem ((c : Thread nD τ).loc main_v1) = oOf m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0

/-- On eight devices, over any float values and from any memory with all counters at zero: every fair run of the program
    comes to its end, and ends so. -/
theorem run_main : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (mint m) $$ HX with HG
      imodintro
      isplitl [HP] <;> iassumption)
    (hglob := glob m)
    (hA := fun _ _ => rfl) (hpf := fun _ k => k.elim0)
    (X := fun c => iprop(start m c ∗ argPts m c)) (Y := fun c => iprop(unscopedSems0 c ∗ argPts m c)) (Z := fun _ => iprop(emp))
    (hX := start_intro m ρ) (hin := body_in m ρ) (hout := body_out m ρ)
    (QY := Kept m) (hY := read_kept m)
    (hQ := fun _ h hs => ⟨fun c => ⟨((h c).1 (0 : Fin 1)).trans (final_out m ρ c), (h c).2.2.1⟩,
      sem_eq_zero hs fun c => (h c).2.2.2⟩)

end Cert.Gather
-- ==== Proof.Value.lean ====
/-
# The values

With floats read as extended reals, an entry of a device's result is the larger of zero and a sum over the 1024 contracted
places of an entry of some device's rows of `x` times an entry of this device's columns of `w`. When those rows and columns
are the blocks of two whole matrices, that is the entry of the reference's result the block holds.
-/
module

public import proofs.«01_k».proof.Proof.Protocol
public import proofs.«01_k».proof.Proof.Gen.ReferenceIdeal.Run
public import Idealize.ShloMosaic.Lib.Pipeline.Value
public import Idealize.ShloMosaic.Lib.MatmulPlain
public import Idealize.ShloMosaic.Lib.StackMember
public import Idealize.ShloMosaic.Lib.Layout

@[expose] public section

noncomputable section

namespace Cert.Gather

open Cert.KernelIdeal Cert.KernelIdeal.Gen

open Idealize.ShloMosaic
open Idealize.ShloMosaic.TcCoe
open Idealize.ShloMosaic.ValueIdx (ix2 eq_ix2)
open scoped BigOperators

/-- A matrix of extended reals, kept in either float format. -/
abbrev Mat (φ : FTy) (a b : ℕ) : Type := FVec Ideal (Sh a b) φ

/-- The larger of zero and the product's entry at row `r` and column `q`. -/
def reluDot {a b : ℕ} {φ ψ : FTy} (x : Mat φ a 1024) (w : Mat ψ 1024 b) (r : Fin a) (q : Fin b) : EReal :=
  max (∑ k : Fin 1024, x (ix2 r k) * w (ix2 k q)) 0

theorem zero_splat {s : Shape} (i : s.Idx) : (constant (F := Ideal) s .f32 0x00000000#32 : FVec Ideal s .f32) i = 0 := Ideal.ofBits_zero_f32

/-- One block's computation, at an entry; -/
theorem block_entry (x : Mat .f32 128 1024) (w : Mat .f32 1024 128) (r q : Fin 128) :
    k0_pay3 (F := Ideal) (k0_pay1 (F := Ideal) x) (k0_pay2 (F := Ideal) w) (ix2 r q) = reluDot x w r q := by
  have hx : (k0_pay1 (F := Ideal) x : Mat .bf16 128 1024) = x := funext fun i => by
    unfold k0_pay1; rw [shapeCast_self]; rfl
  have hw : (k0_pay2 (F := Ideal) w : Mat .bf16 1024 128) = w := funext fun i => by
    unfold k0_pay2; rw [shapeCast_self]; rfl
  have hd : FloatOps.matmul (F := Ideal) (φ₁ := .bf16) (φ₂ := .bf16) dot_S128x1024_S1024x128_S128x128_1_0_0_1_n_n none
      (k0_pay1 (F := Ideal) x) (k0_pay2 (F := Ideal) w) (constant S128x128 .f32 0x00000000#32) (ix2 r q)
      = ∑ k : Fin 1024, x (ix2 r k) * w (ix2 k q) := by
    refine (Ideal.matmul_plain_apply (M := 128) (K := 1024) (N := 128) none _ _ _ r q).trans ?_
    rw [zero_splat, zero_add, hx, hw]
  exact congrArg₂ max hd Ideal.ofBits_zero_f32

/-- The reference's result, of whole operands, -/
def refOut (x w : Mat .f32 1024 1024) : Mat .f32 1024 1024 :=
  maximumf (F := Ideal) (Host.dotGeneral Cert.ReferenceIdeal.dot_S1024x1024_S1024x1024_S1024x1024_1_0_0_1_n_n none x w)
    (broadcastInDim Cert.ReferenceIdeal.S1024x1024 ![] Cert.ReferenceIdeal.Facts₀.bcast_S_S1024x1024 (constant Cert.ReferenceIdeal.S_ .f32 0x00000000#32))

/-- and that at an entry. -/
theorem reference_entry (x w : Mat .f32 1024 1024) (r q : Fin 1024) : refOut x w (ix2 r q) = reluDot x w r q := by
  have hd : Host.dotGeneral (F := Ideal) Cert.ReferenceIdeal.dot_S1024x1024_S1024x1024_S1024x1024_1_0_0_1_n_n none x w (ix2 r q)
      = ∑ k : Fin 1024, x (ix2 r k) * w (ix2 k q) := StackMember.dotGeneral_plain_apply (m := 1024) (k := 1024) (n := 1024) none x w r q
  exact congrArg₂ max hd Ideal.ofBits_zero_f32

/-- A row of `x`'s block and a column of `w`'s are a row and a column of the whole operands. -/
theorem block_reluDot (X W : Mat .f32 1024 1024) (c p : Fin 8) (r q : Fin 128) (r' q' : Fin 1024)
    (hr : r'.val = p.val * 128 + r.val) (hq : q'.val = c.val * 128 + q.val) :
    reluDot (φ := .f32) (ψ := .f32) (Layout.block (Sh 128 1024) (Sh 1024 1024) 0 8 p X) (Layout.block (Sh 1024 128) (Sh 1024 1024) 1 8 c W) r q
      = reluDot X W r' q' := by
  unfold reluDot
  refine congrArg (max · 0) (Finset.sum_congr rfl fun k _ => congrArg₂ (· * ·) (congrArg X (funext fun a => Fin.ext ?_)) (congrArg W (funext fun a => Fin.ext ?_)))
  · match a with
    | ⟨0, _⟩ => exact hr.symm
    | ⟨1, _⟩ => rfl
  · match a with
    | ⟨0, _⟩ => rfl
    | ⟨1, _⟩ => exact hq.symm

/-- Where every device holds its rows of `X` and its columns of `W`, device `c` ends with its columns of the reference's
    result. -/
theorem result_block (m : (ℓ : Loc nD τ sig) → Buf (Elt Ideal) ℓ) (X W : Mat .f32 1024 1024)
    (hX : ∀ c : Dev nD, xOf m c = Layout.block (Sh 128 1024) (Sh 1024 1024) 0 8 c X)
    (hW : ∀ c : Dev nD, wOf m c = Layout.block (Sh 1024 128) (Sh 1024 1024) 1 8 c W) (c : Dev nD) :
    oOf m c = Layout.block (Sh 1024 128) (Sh 1024 1024) 1 8 c (refOut X W) := by
  have ht : Layout.Tiles (Sh 1024 128) (Sh 1024 1024) 1 8 := by decide
  funext i
  have hl : oOf m c i = reluDot (φ := .f32) (ψ := .f32) (xOf m (rowDev i)) (wOf m c) (rowIn i 0) (rowIn i 1) := by
    unfold oOf stack
    rw [eq_ix2 (rowIn i)]
    exact block_entry _ _ _ _
  have hr : Layout.block (Sh 1024 128) (Sh 1024 1024) 1 8 c (refOut X W) ht i = reluDot X W (ht.idx c i 0) (ht.idx c i 1) := by
    rw [Layout.block_apply, eq_ix2 (ht.idx c i)]
    exact reference_entry X W _ _
  rw [hl, hr, hX, hW]
  refine block_reluDot X W c (rowDev i) _ _ _ _ ?_ rfl
  show (i 0).val = (i 0).val / 128 * 128 + (i 0).val % 128
  omega

end Cert.Gather
-- ==== Proof.lean ====
/-
# The certificate

The kernel's run over any float values (`Proof/Launch.lean`) gives the two frames: at machine floats for the kernel, at
extended reals for its idealization, whose text is the same. The idealization replaces no operation, so there is nothing to
preserve. The reference's run is that of its four host operations, and `Proof/Value.lean` compares the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Gather

/-- The two programs' one kernel body is the same text, so at machine floats they have the same definitions. -/
theorem defs₀_eq : Cert.Kernel.defs₀ (F := Bits) = Cert.KernelIdeal.defs₀ (F := Bits) := by
  refine congrArg Defs.onTc (funext fun ℓ => funext fun a => ?_)
  match ℓ, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.Kernel.pcfgs) defs₀_eq

/-- The kernel terminates, leaves its operands alone and all counters at zero, -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

/-- and so does its idealization, -/
theorem frame_kernelIdeal : Cert.quiescent_KernelIdeal := fun m ρ _ =>
  (θ_run Cert.KernelIdeal.defs _ _).mono (fun _ h => ⟨fun c => (h.1 c).2, h.2⟩) (run_main (F := Ideal) m ρ)

/-- and the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization's devices end with their columns of the reference's result. -/
theorem algebraic : Cert.algebraic_KernelIdeal_ReferenceIdeal := fun m ρ m' ρ' _ hm => by
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ?_) (run_main (F := Ideal) m ρ)
    exact ⟨(h.1 c).1.trans (result_block m _ _ (fun c => (hm c).1) (fun c => (hm c).2) c), (h.1 c).2⟩
  · exact (θ_run Cert.ReferenceIdeal.defs _ _).mono (fun r h => h 0) (Cert.ReferenceIdeal.Value.run (F := Ideal) m' ρ')

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
